-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 2048]⟩ ⟨2, ![4096, 2048]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 2048]⟩ ⟨2, ![4096, 2048]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S512x2048 : Shape := ⟨2, ![512, 2048]⟩
abbrev S4x2x512x512 : Shape := ⟨4, ![4, 2, 512, 512]⟩
abbrev S4x7x512x512 : Shape := ⟨4, ![4, 7, 512, 512]⟩
abbrev S4x7 : Shape := ⟨2, ![4, 7]⟩
abbrev S_ : Shape := ⟨0, ![]⟩
abbrev S512x512 : Shape := ⟨2, ![512, 512]⟩
abbrev S1x1x512x512 : Shape := ⟨4, ![1, 1, 512, 512]⟩
abbrev S1x1 : Shape := ⟨2, ![1, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .f32⟩
  | .hbm, ⟨1, _⟩ => ⟨S512x2048, .f32⟩
  | .hbm, ⟨2, _⟩ => ⟨S512x2048, .f32⟩
  | .local _ .vmem, ⟨0, _⟩ => ⟨S4096x512, .f32⟩
  | .local _ .vmem, ⟨1, _⟩ => ⟨S512x2048, .f32⟩
  | .local _ .vmem, ⟨2, _⟩ => ⟨S512x2048, .f32⟩
  | .local _ .vmem, ⟨3, _⟩ => ⟨S4x2x512x512, .f32⟩
  | .local _ .vmem, ⟨4, _⟩ => ⟨S4x7x512x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  (ofTc nBuf bufTy 1 59 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_8 : BitVec 32 := 1#32
  let v11 : BitVec 32 := Scalar.muli v7 c1_i32_8
  let v12 : BitVec 32 := Scalar.addi c0_i32_9 v11
  v12.toNat
def k0_off1 (d0 : Dev nD) (c0_i32_11 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_10 : BitVec 32 := 1#32
  let v13 : BitVec 32 := Scalar.subi v2 c1_i32_10
  let v14 : BitVec 32 := Scalar.subi v13 c0_i32_11
  let c16_i32 : BitVec 32 := 16#32
  let v15 : BitVec 32 := Scalar.addi v14 c16_i32
  let c8_i32_12 : BitVec 32 := 8#32
  let v16 : BitVec 32 := Scalar.remsi v15 c8_i32_12
  let c512_i32 : BitVec 32 := 512#32
  let v17 : BitVec 32 := Scalar.muli v16 c512_i32
  let v18 : Index := Scalar.indexCast v17
  let c0 : Index := 0#32
  ![v18.toNat, 0]
def k0_dev3 (d0 : Dev nD) : Nat :=
  let c0_i32_28 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_27 : BitVec 32 := 1#32
  let v27 : BitVec 32 := Scalar.muli v7 c1_i32_27
  let v28 : BitVec 32 := Scalar.addi c0_i32_28 v27
  v28.toNat
def k0_off2 (d0 : Dev nD) (c0_i32_34 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_33 : BitVec 32 := 1#32
  let v37 : BitVec 32 := Scalar.addi v2 c1_i32_33
  let v38 : BitVec 32 := Scalar.addi v37 c0_i32_34
  let c8_i32_35 : BitVec 32 := 8#32
  let v39 : BitVec 32 := Scalar.remsi v38 c8_i32_35
  let c512_i32_36 : BitVec 32 := 512#32
  let v40 : BitVec 32 := Scalar.muli v39 c512_i32_36
  let v41 : Index := Scalar.indexCast v40
  let c0_37 : Index := 0#32
  ![v41.toNat, 0]
def k0_dev4 (d0 : Dev nD) : Nat :=
  let c0_i32_52 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_51 : BitVec 32 := 1#32
  let v50 : BitVec 32 := Scalar.muli v5 c1_i32_51
  let v51 : BitVec 32 := Scalar.addi c0_i32_52 v50
  v51.toNat
def k0_dev5 (d0 : Dev nD) : Nat :=
  let c0_i32_77 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_76 : BitVec 32 := 1#32
  let v74 : BitVec 32 := Scalar.muli v7 c1_i32_76
  let v75 : BitVec 32 := Scalar.addi c0_i32_77 v74
  v75.toNat
def k0_dev6 (d0 : Dev nD) : Nat :=
  let c0_i32_100 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_99 : BitVec 32 := 1#32
  let v97 : BitVec 32 := Scalar.muli v5 c1_i32_99
  let v98 : BitVec 32 := Scalar.addi c0_i32_100 v97
  v98.toNat
def k0_dev7 (d0 : Dev nD) : Nat :=
  let c0_i32_145 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_144 : BitVec 32 := 1#32
  let v132 : BitVec 32 := Scalar.muli v7 c1_i32_144
  let v133 : BitVec 32 := Scalar.addi c0_i32_145 v132
  v133.toNat
def k0_dev8 (d0 : Dev nD) : Nat :=
  let c0_i32_189 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_188 : BitVec 32 := 1#32
  let v166 : BitVec 32 := Scalar.muli v5 c1_i32_188
  let v167 : BitVec 32 := Scalar.addi c0_i32_189 v166
  v167.toNat
def k0_dev9 (d0 : Dev nD) : Nat :=
  let c0_i32_234 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_233 : BitVec 32 := 1#32
  let v201 : BitVec 32 := Scalar.muli v7 c1_i32_233
  let v202 : BitVec 32 := Scalar.addi c0_i32_234 v201
  v202.toNat
def k0_dev10 (d0 : Dev nD) : Nat :=
  let c0_i32_278 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_277 : BitVec 32 := 1#32
  let v235 : BitVec 32 := Scalar.muli v5 c1_i32_277
  let v236 : BitVec 32 := Scalar.addi c0_i32_278 v235
  v236.toNat
def k0_dev11 (d0 : Dev nD) : Nat :=
  let c0_i32_336 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_335 : BitVec 32 := 1#32
  let v276 : BitVec 32 := Scalar.muli v7 c1_i32_335
  let v277 : BitVec 32 := Scalar.addi c0_i32_336 v276
  v277.toNat
def k0_dev12 (d0 : Dev nD) : Nat :=
  let c0_i32_393 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_392 : BitVec 32 := 1#32
  let v316 : BitVec 32 := Scalar.muli v5 c1_i32_392
  let v317 : BitVec 32 := Scalar.addi c0_i32_393 v316
  v317.toNat
def k0_dev13 (d0 : Dev nD) : Nat :=
  let c0_i32_451 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_450 : BitVec 32 := 1#32
  let v357 : BitVec 32 := Scalar.muli v7 c1_i32_450
  let v358 : BitVec 32 := Scalar.addi c0_i32_451 v357
  v358.toNat
def k0_dev14 (d0 : Dev nD) : Nat :=
  let c0_i32_508 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_507 : BitVec 32 := 1#32
  let v397 : BitVec 32 := Scalar.muli v5 c1_i32_507
  let v398 : BitVec 32 := Scalar.addi c0_i32_508 v397
  v398.toNat
def k0_dev15 (d0 : Dev nD) : Nat :=
  let c0_i32_566 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_565 : BitVec 32 := 1#32
  let v438 : BitVec 32 := Scalar.muli v7 c1_i32_565
  let v439 : BitVec 32 := Scalar.addi c0_i32_566 v438
  v439.toNat
def k0_dev16 (d0 : Dev nD) : Nat :=
  let c0_i32_623 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_622 : BitVec 32 := 1#32
  let v478 : BitVec 32 := Scalar.muli v5 c1_i32_622
  let v479 : BitVec 32 := Scalar.addi c0_i32_623 v478
  v479.toNat
def k0_dev17 (d0 : Dev nD) : Nat :=
  let c0_i32_681 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_680 : BitVec 32 := 1#32
  let v519 : BitVec 32 := Scalar.muli v7 c1_i32_680
  let v520 : BitVec 32 := Scalar.addi c0_i32_681 v519
  v520.toNat
def k0_dev18 (d0 : Dev nD) : Nat :=
  let c0_i32_738 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_737 : BitVec 32 := 1#32
  let v559 : BitVec 32 := Scalar.muli v5 c1_i32_737
  let v560 : BitVec 32 := Scalar.addi c0_i32_738 v559
  v560.toNat
def k0_dev19 (d0 : Dev nD) : Nat :=
  let c0_i32_795 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_794 : BitVec 32 := 1#32
  let v600 : BitVec 32 := Scalar.muli v7 c1_i32_794
  let v601 : BitVec 32 := Scalar.addi c0_i32_795 v600
  v601.toNat
def k0_dev20 (d0 : Dev nD) : Nat :=
  let c0_i32_852 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_851 : BitVec 32 := 1#32
  let v640 : BitVec 32 := Scalar.muli v5 c1_i32_851
  let v641 : BitVec 32 := Scalar.addi c0_i32_852 v640
  v641.toNat
def k0_dev21 (d0 : Dev nD) : Nat :=
  let c0_i32_910 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_909 : BitVec 32 := 1#32
  let v681 : BitVec 32 := Scalar.muli v7 c1_i32_909
  let v682 : BitVec 32 := Scalar.addi c0_i32_910 v681
  v682.toNat
def k0_dev22 (d0 : Dev nD) : Nat :=
  let c0_i32_967 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_966 : BitVec 32 := 1#32
  let v721 : BitVec 32 := Scalar.muli v5 c1_i32_966
  let v722 : BitVec 32 := Scalar.addi c0_i32_967 v721
  v722.toNat
def k0_dev23 (d0 : Dev nD) : Nat :=
  let c0_i32_1023 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1022 : BitVec 32 := 1#32
  let v762 : BitVec 32 := Scalar.muli v7 c1_i32_1022
  let v763 : BitVec 32 := Scalar.addi c0_i32_1023 v762
  v763.toNat
def k0_dev24 (d0 : Dev nD) : Nat :=
  let c0_i32_1080 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1079 : BitVec 32 := 1#32
  let v802 : BitVec 32 := Scalar.muli v5 c1_i32_1079
  let v803 : BitVec 32 := Scalar.addi c0_i32_1080 v802
  v803.toNat
def k0_dev25 (d0 : Dev nD) : Nat :=
  let c0_i32_1138 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1137 : BitVec 32 := 1#32
  let v843 : BitVec 32 := Scalar.muli v7 c1_i32_1137
  let v844 : BitVec 32 := Scalar.addi c0_i32_1138 v843
  v844.toNat
def k0_dev26 (d0 : Dev nD) : Nat :=
  let c0_i32_1195 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1194 : BitVec 32 := 1#32
  let v883 : BitVec 32 := Scalar.muli v5 c1_i32_1194
  let v884 : BitVec 32 := Scalar.addi c0_i32_1195 v883
  v884.toNat
def k0_dev27 (d0 : Dev nD) : Nat :=
  let c0_i32_1251 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1250 : BitVec 32 := 1#32
  let v924 : BitVec 32 := Scalar.muli v7 c1_i32_1250
  let v925 : BitVec 32 := Scalar.addi c0_i32_1251 v924
  v925.toNat
def k0_dev28 (d0 : Dev nD) : Nat :=
  let c0_i32_1308 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1307 : BitVec 32 := 1#32
  let v964 : BitVec 32 := Scalar.muli v5 c1_i32_1307
  let v965 : BitVec 32 := Scalar.addi c0_i32_1308 v964
  v965.toNat
def k0_dev29 (d0 : Dev nD) : Nat :=
  let c0_i32_1366 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1365 : BitVec 32 := 1#32
  let v1005 : BitVec 32 := Scalar.muli v7 c1_i32_1365
  let v1006 : BitVec 32 := Scalar.addi c0_i32_1366 v1005
  v1006.toNat
def k0_dev30 (d0 : Dev nD) : Nat :=
  let c0_i32_1423 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1422 : BitVec 32 := 1#32
  let v1045 : BitVec 32 := Scalar.muli v5 c1_i32_1422
  let v1046 : BitVec 32 := Scalar.addi c0_i32_1423 v1045
  v1046.toNat
abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Ideal.Program.lean ====
/-
# 01_k — `Program`: the kernel's body as loops over flows and steps

The printed body spells out twenty-eight transfers and thirty-two block products one after another. Here the same
program is written once per kind of step, at a flow `f` and a step `t`, and `body_eq` says that the printed body is
that program.
-/
module

public import proofs.«01_k».proof.Proof.Gen.KernelIdeal
public import proofs.«01_k».proof.Proof.Gen.KernelIdeal.Skeleton

@[expose] public section

noncomputable section

namespace Cert.KernelIdeal.Body

open Cert.KernelIdeal Cert.KernelIdeal.Gen
open Idealize.ShloMosaic
open Idealize.SL.Sem

variable {F : FTy → Type} [FloatOps F]

/-! ## Rectangles: a flow's slots, its columns, the block of rows it multiplies at a step -/

theorem sslot_inb (f : Fin 4) (j : ℕ) : ∀ a, (![f.val, j % 2, 0, 0] : Fin 4 → ℕ) a + S1x1x512x512.size a ≤ S4x2x512x512.size a := by
  have h : ∀ (f : Fin 4) (k : Fin 2), ∀ a, (![f.val, k.val, 0, 0] : Fin 4 → ℕ) a + S1x1x512x512.size a ≤ S4x2x512x512.size a := by decide
  exact h f ⟨j % 2, Nat.mod_lt _ (by decide)⟩
theorem rslot_inb (f : Fin 4) (j : ℕ) : ∀ a, (![f.val, j % 7, 0, 0] : Fin 4 → ℕ) a + S1x1x512x512.size a ≤ S4x7x512x512.size a := by
  have h : ∀ (f : Fin 4) (k : Fin 7), ∀ a, (![f.val, k.val, 0, 0] : Fin 4 → ℕ) a + S1x1x512x512.size a ≤ S4x7x512x512.size a := by decide
  exact h f ⟨j % 7, Nat.mod_lt _ (by decide)⟩
theorem sem_inb (f : Fin 4) (j : ℕ) : ∀ a, (![f.val, j % 7] : Fin 2 → ℕ) a + S1x1.size a ≤ S4x7.size a := by
  have h : ∀ (f : Fin 4) (k : Fin 7), ∀ a, (![f.val, k.val] : Fin 2 → ℕ) a + S1x1.size a ≤ S4x7.size a := by decide
  exact h f ⟨j % 7, Nat.mod_lt _ (by decide)⟩
theorem cols_inb (f : Fin 4) : ∀ a, (![0, f.val * 512] : Fin 2 → ℕ) a + S512x512.size a ≤ S512x2048.size a := by
  revert f; decide

/-- Step `j`'s send slot of flow `f` (the two alternate), and the slot its block lands in. -/
abbrev sslot (f : Fin 4) (j : ℕ) : Rect S4x2x512x512 := Rect.unit (s := S4x2x512x512) ![f.val, j % 2, 0, 0] S1x1x512x512.size (sslot_inb f j)
abbrev rslot (f : Fin 4) (j : ℕ) : Rect S4x7x512x512 := Rect.unit (s := S4x7x512x512) ![f.val, j % 7, 0, 0] S1x1x512x512.size (rslot_inb f j)
abbrev semAt (f : Fin 4) (j : ℕ) : Rect S4x7 := Rect.unit (s := S4x7) ![f.val, j % 7] S1x1.size (sem_inb f j)
/-- The columns of `w` and of the result that flow `f` works on. -/
abbrev cols (f : Fin 4) : Rect S512x2048 := Rect.unit (s := S512x2048) ![0, f.val * 512] S512x512.size (cols_inb f)

/-- The rows of `x` that flow `f` multiplies at step `t`: flows 0 and 1 go round one way, 2 and 3 the other. -/
def xoff (d : Dev nD) (f : Fin 4) (t : ℕ) : Fin 2 → ℕ :=
  if f.val < 2 then k0_off1 d (BitVec.ofNat 32 (t % 8)) else k0_off2 d (BitVec.ofNat 32 (t % 8))
theorem xoff_inb (d : Dev nD) (f : Fin 4) (t : ℕ) : ∀ a, xoff d f t a + S512x512.size a ≤ S4096x512.size a := by
  unfold xoff
  split
  · exact k0_off1_inb d ⟨t % 8, Nat.mod_lt _ (by decide)⟩
  · exact k0_off2_inb d ⟨t % 8, Nat.mod_lt _ (by decide)⟩
abbrev rows (d : Dev nD) (f : Fin 4) (t : ℕ) : Rect S4096x512 := Rect.unit (s := S4096x512) (xoff d f t) S512x512.size (xoff_inb d f t)

/-- The device flow `f` sends to, by the kernel's own chain. -/
def devOf (d : Dev nD) (f : Fin 4) : Dev nD :=
  if f.val < 2 then ⟨k0_dev3 d, k0_dev3_lt d⟩ else ⟨k0_dev4 d, k0_dev4_lt d⟩

/-! ## Payloads -/

/-- A block product. -/
def mm (x : Vec F S512x512 .f32) (w : Vec F S512x512 .f32) : FVec F S512x512 .f32 :=
  matmul dot_S512x512_S512x512_S512x512_1_0_0_1_n_n none (shapeCast S512x512 x shapeCasts_S512x512_S512x512)
    (shapeCast S512x512 w shapeCasts_S512x512_S512x512) (constant S512x512 .f32 0x00000000#32)
/-- A block as a slot of the buffers, and back. -/
def toSlot (v : FVec F S512x512 .f32) : FVec F S1x1x512x512 .f32 := shapeCast S1x1x512x512 v shapeCasts_S512x512_S1x1x512x512
def ofSlot (v : Vec F S1x1x512x512 .f32) : FVec F S512x512 .f32 := shapeCast S512x512 v shapeCasts_S1x1x512x512_S512x512
def relu (v : FVec F S512x512 .f32) : FVec F S512x512 .f32 :=
  maximumf v (broadcast S512x512 (Scalar.ofBits .f32 0x00000000#32))

/-! ## The steps -/

section Steps

variable (arg0 : Memref sig .tc .vmem S4096x512 .f32) (arg1 : Memref sig .tc .vmem S512x2048 .f32) (arg2 : Memref sig .tc .vmem S512x2048 .f32)
  (arg3 : Memref sig .tc .vmem S4x2x512x512 .f32) (arg4 : Memref sig .tc .vmem S4x7x512x512 .f32) (arg5 arg6 : DmaSems sig S4x7)

abbrev sendM (f : Fin 4) (j : ℕ) : Memref sig .tc .vmem S512x512 .f32 :=
  (arg3.slice (sslot f j) (fun _ => rfl)).squeeze S512x512 squeezes_S1x1x512x512_S512x512
abbrev recvM (f : Fin 4) (j : ℕ) : Memref sig .tc .vmem S512x512 .f32 :=
  (arg4.slice (rslot f j) (fun _ => rfl)).squeeze S512x512 squeezes_S1x1x512x512_S512x512
abbrev semOf (s : DmaSems sig S4x7) (f : Fin 4) (j : ℕ) : DmaSem sig :=
  ((s.slice (semAt f j)).squeeze S_ squeezes_S1x1_S_).sem

/-- Flow `f`'s product at step `t`. -/
def dot (d : Dev nD) (f : Fin 4) (t : ℕ) : Prog (TpuEff nD τ sig (Elt F) Λ₀ .tc) (FVec F S512x512 .f32) := do
  let x : Vec F S512x512 .f32 ← Prog.lift (.load arg0 (rows d f t).toLoadRect (View.loadsAt_vmem h_S512x512))
  let w : Vec F S512x512 .f32 ← Prog.lift (.load arg1 (cols f).toLoadRect (View.loadsAt_vmem h_S512x512))
  pure (mm x w)

/-- The block put into step `j`'s send slot. -/
def put (f : Fin 4) (j : ℕ) (v : FVec F S512x512 .f32) : Prog (TpuEff nD τ sig (Elt F) Λ₀ .tc) PUnit := do
  let _ : Vec F S1x1x512x512 .f32 ← Prog.lift (.load arg3 (sslot f j).toLoadRect (View.loadsAt_vmem h_S1x1x512x512))
  Prog.lift (.store arg3 (sslot f j) (toSlot v) Finset.univ (View.stores_vmem_bits_univ h_S1x1x512x512 rfl) (.inl rfl))

/-- Step `j`'s transfer. -/
def send (d : Dev nD) (f : Fin 4) (j : ℕ) : Prog (TpuEff nD τ sig (Elt F) Λ₀ .tc) PUnit :=
  Prog.lift (.enqueueDma (sendM arg3 f j) (.remote (Dev.tc (devOf d f)) (recvM arg4 f j) (.dma (semOf arg5 f j))) (.dma (semOf arg6 f j))
    ((View.wordExact_bits rfl).reshape _ _) ((View.wordExact_bits rfl).reshape _ _) ⟨⟨rfl, Or.inl rfl⟩, trivial⟩)

/-- The wait for step `j`'s block, and its load. -/
def recv (f : Fin 4) (j : ℕ) : Prog (TpuEff nD τ sig (Elt F) Λ₀ .tc) (FVec F S512x512 .f32) := do
  Prog.lift (.waitDma2 (semOf arg6 f j) (sendM arg3 f j) (recvM arg4 f j) ((View.wordExact_bits rfl).reshape _ _) ((View.wordExact_bits rfl).reshape _ _))
  let r : Vec F S1x1x512x512 .f32 ← Prog.lift (.load arg4 (rslot f j).toLoadRect (View.loadsAt_vmem h_S1x1x512x512))
  pure (ofSlot r)

/-- The wait for step `j`'s transfer to have left its send slot. -/
def sent (f : Fin 4) (j : ℕ) : Prog (TpuEff nD τ sig (Elt F) Λ₀ .tc) PUnit :=
  Prog.lift (.waitDma2 (semOf arg5 f j) (recvM arg4 f j) (sendM arg3 f j) ((View.wordExact_bits rfl).reshape _ _) ((View.wordExact_bits rfl).reshape _ _))

/-- Step 0 of a flow: its first product, sent on. -/
def first (d : Dev nD) (f : Fin 4) : Prog (TpuEff nD τ sig (Elt F) Λ₀ .tc) PUnit := do
  let p ← dot arg0 arg1 d f 0
  put arg3 f 0 p
  send arg3 arg4 arg5 arg6 d f 0

/-- Step 1: the send slot is still free. -/
def second (d : Dev nD) (f : Fin 4) : Prog (TpuEff nD τ sig (Elt F) Λ₀ .tc) PUnit := do
  let p ← dot arg0 arg1 d f 1
  let r ← recv arg3 arg4 arg6 f 0
  put arg3 f 1 (addf p r)
  send arg3 arg4 arg5 arg6 d f 1

/-- Steps 2 to 6, step `t + 2`: the transfer of step `t` is awaited before its send slot is used again. -/
def later (d : Dev nD) (t : ℕ) (f : Fin 4) : Prog (TpuEff nD τ sig (Elt F) Λ₀ .tc) PUnit := do
  let p ← dot arg0 arg1 d f (t + 2)
  let r ← recv arg3 arg4 arg6 f (t + 1)
  sent arg3 arg4 arg5 f t
  put arg3 f (t + 2) (addf p r)
  send arg3 arg4 arg5 arg6 d f (t + 2)

/-- Step 7: the device's own block, complete, into the result. -/
def last (d : Dev nD) (f : Fin 4) : Prog (TpuEff nD τ sig (Elt F) Λ₀ .tc) PUnit := do
  let p ← dot arg0 arg1 d f 7
  let r ← recv arg3 arg4 arg6 f 6
  let _ : Vec F S512x512 .f32 ← Prog.lift (.load arg2 (cols f).toLoadRect (View.loadsAt_vmem h_S512x512))
  Prog.lift (.store arg2 (cols f) (relu (addf p r)) Finset.univ (View.stores_vmem_bits_univ h_S512x512 rfl) (.inl rfl))

/-- The same for every flow, in the kernel's order. -/
def flows (p : Fin 4 → Prog (TpuEff nD τ sig (Elt F) Λ₀ .tc) PUnit) : Prog (TpuEff nD τ sig (Elt F) Λ₀ .tc) PUnit := do
  p 0
  p 2
  p 1
  p 3

abbrev barS : Sem sig := (SemArray.scalar (sig.barrier 0 rfl) : Sems sig S_).sem

/-- The handshake with both neighbours. -/
def handshake (d : Dev nD) : Prog (TpuEff nD τ sig (Elt F) Λ₀ .tc) PUnit := do
  semSignalWord (⟨k0_dev1 d, k0_dev1_lt d⟩ : Dev nD) barS 1#32
  semSignalWord (⟨k0_dev2 d, k0_dev2_lt d⟩ : Dev nD) barS 1#32
  semWaitWord barS 2#32

def body : Prog (TpuEff nD τ sig (Elt F) Λ₀ .tc) PUnit := do
  let d : Dev nD ← Prog.lift .deviceId
  handshake d
  flows (first arg0 arg1 arg3 arg4 arg5 arg6 d)
  flows (second arg0 arg1 arg3 arg4 arg5 arg6 d)
  flows (later arg0 arg1 arg3 arg4 arg5 arg6 d 0)
  flows (later arg0 arg1 arg3 arg4 arg5 arg6 d 1)
  flows (later arg0 arg1 arg3 arg4 arg5 arg6 d 2)
  flows (later arg0 arg1 arg3 arg4 arg5 arg6 d 3)
  flows (later arg0 arg1 arg3 arg4 arg5 arg6 d 4)
  flows (last arg0 arg1 arg2 arg3 arg4 arg6 d)
  flows (fun f => sent arg3 arg4 arg5 f 5)
  flows (fun f => sent arg3 arg4 arg5 f 6)

end Steps

set_option maxRecDepth 65536 in
/-- The printed body is this program. -/
theorem body_eq (arg0 : Memref sig .tc .vmem S4096x512 .f32) (harg0 : arg0.IsWhole) (arg1 : Memref sig .tc .vmem S512x2048 .f32) (harg1 : arg1.IsWhole) (arg2 : Memref sig .tc .vmem S512x2048 .f32) (harg2 : arg2.IsWhole) (arg3 : Memref sig .tc .vmem S4x2x512x512 .f32) (harg3 : arg3.IsWhole) (arg4 : Memref sig .tc .vmem S4x7x512x512 .f32) (harg4 : arg4.IsWhole) (arg5 : DmaSems sig S4x7) (arg6 : DmaSems sig S4x7) :
    cc0_body_skel (F := F) arg0 harg0 arg1 harg1 arg2 harg2 arg3 harg3 arg4 harg4 arg5 arg6 = body arg0 arg1 arg2 arg3 arg4 arg5 arg6 := by
  rfl

end Cert.KernelIdeal.Body

end
-- ==== Proof.Ideal.Protocol.lean ====
/-
# 01_k — `Protocol`: what the eight devices hand each other, and when

Device `c` has a neighbour each way round the ring, `nxt c` and `prv c`. Flow `f` sends to `dst f c`, which is `nxt c`
for the flows 0 and 1 and `prv c` for the flows 2 and 3, and receives from `src f c`, the other one.

Every device has a barrier semaphore, and for each flow `f` and each of the transfers `j < 7` a send and a receive
semaphore. Who waits for what:

  * the barrier: the device itself, for two units. `nxt c` pays one (duty `true`) and hands over its landing slots of
    the flows 0 and 1, into which `c` sends; `prv c` pays the other (duty `false`) with its slots of the flows 2 and 3;
  * receive semaphore `(f, j)` of `c`: the transfer `j` of flow `f` out of `src f c` pays it and hands over the landing
    slot holding the sum of `j + 1` block products, `acc f j (src f c)`;
  * send semaphore `(f, j)` of `c`: the same transfer of `c`'s own pays it and hands the send slot back.

Every semaphore serves one round. A device waits for the block `j` of a flow only when it has sent the block `j` of
every flow on, so the receive semaphores are ordered by `j`, above the barrier, which is above the send semaphores.
-/
module

public import proofs.«01_k».proof.Proof.Ideal.Program
public import proofs.«01_k».proof.Proof.Gen.KernelIdeal.Launch
public import Idealize.ShloMosaic.Lib.Pipeline.Launch
public import Idealize.ShloMosaic.Lib.Pipeline.Kit
public import Idealize.ShloMosaic.Lib.Tactic
public import Mathlib.Algebra.Order.BigOperators.Group.LocallyFinite

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's part and the ring's -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The ring -/

def nxt (c : Dev nD) : Dev nD := ⟨(c.val + 1) % 8, Nat.mod_lt _ (by decide)⟩
def prv (c : Dev nD) : Dev nD := ⟨(c.val + 7) % 8, Nat.mod_lt _ (by decide)⟩

theorem prv_nxt (c : Dev nD) : prv (nxt c) = c := by revert c; decide
theorem nxt_prv (c : Dev nD) : nxt (prv c) = c := by revert c; decide
theorem nxt_ne_prv (c : Dev nD) : nxt c ≠ prv c := by revert c; decide

def ring : Dev nD ≃ Dev nD := ⟨nxt, prv, prv_nxt, nxt_prv⟩

/-- Where flow `f` sends, and where it receives from. -/
def dst (f : Fin 4) (c : Dev nD) : Dev nD := if f.val < 2 then nxt c else prv c
def src (f : Fin 4) (c : Dev nD) : Dev nD := if f.val < 2 then prv c else nxt c

theorem src_dst (f : Fin 4) (c : Dev nD) : src f (dst f c) = c := by
  unfold src dst; split
  · exact prv_nxt c
  · exact nxt_prv c
theorem dst_src (f : Fin 4) (c : Dev nD) : dst f (src f c) = c := by
  unfold src dst; split
  · exact nxt_prv c
  · exact prv_nxt c

def around (f : Fin 4) : Dev nD ≃ Dev nD := ⟨dst f, src f, src_dst f, dst_src f⟩

/-- The devices that the kernel computes are these. -/
theorem dev1_eq (c : Dev nD) : (⟨k0_dev1 c, k0_dev1_lt c⟩ : Dev nD) = prv c := Fin.ext (k0_dev1_eq c)
theorem dev2_eq (c : Dev nD) : (⟨k0_dev2 c, k0_dev2_lt c⟩ : Dev nD) = nxt c := Fin.ext (k0_dev2_eq c)
theorem devOf_eq (c : Dev nD) (f : Fin 4) : devOf c f = dst f c := by
  unfold devOf dst; split
  · exact Fin.ext (k0_dev3_eq c)
  · exact Fin.ext (k0_dev4_eq c)

/-! ## Memrefs, semaphores and cells -/

abbrev xM : Memref sig .tc .vmem S4096x512 .f32 := Memref.whole cc0_stg0_0
abbrev wM : Memref sig .tc .vmem S512x2048 .f32 := Memref.whole cc0_stg1_0
abbrev oM : Memref sig .tc .vmem S512x2048 .f32 := Memref.whole cc0_stg2_0
abbrev sM : Memref sig .tc .vmem S4x2x512x512 .f32 := Memref.whole cc0_scratch0
abbrev rM : Memref sig .tc .vmem S4x7x512x512 .f32 := Memref.whole cc0_scratch1

/-- The send and the receive semaphore of transfer `j` of flow `f`. -/
abbrev sS (f : Fin 4) (j : ℕ) : DmaSem sig := semOf cc0_scratch2 f j
abbrev rS (f : Fin 4) (j : ℕ) : DmaSem sig := semOf cc0_scratch3 f j

theorem semOf_mod (s : DmaSems sig S4x7) (f : Fin 4) (j : ℕ) : semOf s f (j % 7) = semOf s f j := by
  have h : ∀ (a b : ℕ) (_ : a = b) (ha : ∀ i, (![f.val, a] : Fin 2 → ℕ) i + S1x1.size i ≤ S4x7.size i)
      (hb : ∀ i, (![f.val, b] : Fin 2 → ℕ) i + S1x1.size i ≤ S4x7.size i),
      ((s.slice (Rect.unit (s := S4x7) ![f.val, a] S1x1.size ha)).squeeze S_ squeezes_S1x1_S_).sem
        = ((s.slice (Rect.unit (s := S4x7) ![f.val, b] S1x1.size hb)).squeeze S_ squeezes_S1x1_S_).sem := by
    rintro a _ rfl _ _; rfl
  exact h _ _ (Nat.mod_mod _ _) _ _

theorem sS_val (f : Fin 4) (j : ℕ) : (sS f j).val = 3 + 7 * f.val + j % 7 := by
  have h : ∀ (f : Fin 4) (k : Fin 7), (sS f k.val).val = 3 + 7 * f.val + k.val := by decide
  exact (congrArg Fin.val (semOf_mod cc0_scratch2 f j)).symm.trans (h f ⟨j % 7, Nat.mod_lt _ (by decide)⟩)
theorem rS_val (f : Fin 4) (j : ℕ) : (rS f j).val = 31 + 7 * f.val + j % 7 := by
  have h : ∀ (f : Fin 4) (k : Fin 7), (rS f k.val).val = 31 + 7 * f.val + k.val := by decide
  exact (congrArg Fin.val (semOf_mod cc0_scratch3 f j)).symm.trans (h f ⟨j % 7, Nat.mod_lt _ (by decide)⟩)

def barCell (c : Dev nD) : GSem nD τ sig := ((c : Thread nD τ), .reg barS)
def sendCell (c : Dev nD) (f : Fin 4) (j : ℕ) : GSem nD τ sig := ((c : Thread nD τ), .dma (sS f j))
def recvCell (c : Dev nD) (f : Fin 4) (j : ℕ) : GSem nD τ sig := ((c : Thread nD τ), .dma (rS f j))

/-- The kernel's own semaphores by kind (0 send, 1 receive), flow and transfer; all of a device's cells. -/
abbrev OIx : Type := Fin 2 × Fin 4 × Fin 7
abbrev CIx : Type := Option OIx
def osem (k : OIx) : SemLoc sig := .dma (if k.1 = 0 then sS k.2.1 k.2.2.val else rS k.2.1 k.2.2.val)
def csem : CIx → SemLoc sig
  | none => .reg barS
  | some k => osem k
def kcell (ck : Dev nD × CIx) : GSem nD τ sig := ((ck.1 : Thread nD τ), csem ck.2)

def j7 (j : ℕ) : Fin 7 := ⟨j % 7, Nat.mod_lt _ (by decide)⟩
def f4 (n : ℕ) : Fin 4 := ⟨n % 4, Nat.mod_lt _ (by decide)⟩

theorem kcell_bar (c : Dev nD) : kcell (c, none) = barCell c := rfl
theorem kcell_send (c : Dev nD) (f : Fin 4) (j : ℕ) : kcell (c, some (0, f, j7 j)) = sendCell c f j :=
  congrArg (fun s => ((c : Thread nD τ), SemLoc.dma s)) (semOf_mod cc0_scratch2 f j)
theorem kcell_recv (c : Dev nD) (f : Fin 4) (j : ℕ) : kcell (c, some (1, f, j7 j)) = recvCell c f j :=
  congrArg (fun s => ((c : Thread nD τ), SemLoc.dma s)) (semOf_mod cc0_scratch3 f j)

theorem osem_injective : Function.Injective osem := by
  rintro ⟨a, f, j⟩ ⟨a', f', j'⟩ h
  have h' : (if a = 0 then sS f j.val else rS f j.val).val = (if a' = 0 then sS f' j'.val else rS f' j'.val).val :=
    congrArg Fin.val (SemLoc.dma.inj h)
  have := f.isLt; have := f'.isLt; have := j.isLt; have := j'.isLt
  have hj : j.val % 7 = j.val := Nat.mod_eq_of_lt j.isLt
  have hj' : j'.val % 7 = j'.val := Nat.mod_eq_of_lt j'.isLt
  have ha : a = 0 ∨ a = 1 := by omega
  have ha' : a' = 0 ∨ a' = 1 := by omega
  have h1 : (1 : Fin 2) ≠ 0 := by decide
  rcases ha with rfl | rfl <;> rcases ha' with rfl | rfl <;> simp only [if_true, if_neg h1, sS_val, rS_val, hj, hj'] at h'
  · have e1 : f = f' := Fin.ext (by omega)
    have e2 : j = j' := Fin.ext (by omega)
    rw [e1, e2]
  · omega
  · omega
  · have e1 : f = f' := Fin.ext (by omega)
    have e2 : j = j' := Fin.ext (by omega)
    rw [e1, e2]

theorem csem_injective : Function.Injective csem := by
  rintro (_ | k) (_ | k') h
  · rfl
  · cases h
  · cases h
  · exact congrArg some (osem_injective h)

theorem kcell_injective : Function.Injective (kcell : Dev nD × CIx → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- What one transfer credits: a block's worth. -/
def N : ℕ := (recvM rM 0 0).view.dmaCredit
theorem N_pos : 0 < N := View.dmaCredit_pos _ (by decide)
theorem N_send (f : Fin 4) (j : ℕ) : (sendM sM f j).view.dmaCredit = N := rfl
theorem N_recv (f : Fin 4) (j : ℕ) : (recvM rM f j).view.dmaCredit = N := rfl

/-! ## Contents -/

section Contents

-- the devices' `x` and `w` as the kernel's staging buffers hold them
variable (X : Dev nD → S4096x512.Idx → Elt F .f32) (W : Dev nD → S512x2048.Idx → Elt F .f32)

/-- Flow `f`'s product at step `t` on device `c`. -/
def prod (f : Fin 4) (t : ℕ) (c : Dev nD) : FVec F S512x512 .f32 :=
  mm ((xM).view.readAt (Elt F) (rows c f t).toLoadRect (X c)) ((wM).view.readAt (Elt F) (cols f).toLoadRect (W c))

/-- What device `c` sends on as transfer `j` of flow `f`: its product on top of what came in. -/
def acc (f : Fin 4) : ℕ → Dev nD → FVec F S512x512 .f32
  | 0, c => prod X W f 0 c
  | j + 1, c => addf (prod X W f (j + 1) c) (acc f j (src f c))

/-- The columns of the result that flow `f` makes. -/
def outBlk (f : Fin 4) (c : Dev nD) : FVec F S512x512 .f32 := relu (addf (prod X W f 7 c) (acc X W f 6 (src f c)))

end Contents

/-! ## Slots -/

/-- Device `c` holds the send slot, the landing slot of transfer `j` of flow `f`, at contents `v`; at some contents. -/
def slotS (c : Dev nD) (f : Fin 4) (j : ℕ) (v : FVec F S512x512 .f32) : sProp 𝕄 :=
  owns (Ix := Unit) (Name := ℕ) (U := UU) (Lvl := ℕ) (c : Thread nD τ) (sendM sM f j) fullShare v
def slotR (c : Dev nD) (f : Fin 4) (j : ℕ) (v : FVec F S512x512 .f32) : sProp 𝕄 :=
  owns (Ix := Unit) (Name := ℕ) (U := UU) (Lvl := ℕ) (c : Thread nD τ) (recvM rM f j) fullShare v
def anyS (c : Dev nD) (f : Fin 4) (j : ℕ) : sProp 𝕄 := iprop(∃ v, slotS (F := F) c f j v)
def anyR (c : Dev nD) (f : Fin 4) (j : ℕ) : sProp 𝕄 := iprop(∃ v, slotR (F := F) c f j v)

omit [FloatOps F] in
instance slotS_storable (c : Dev nD) (f : Fin 4) (j : ℕ) (v) : BI.Storable (upEmb : UEmb _ 𝕄) (slotS (F := F) c f j v) := by
  unfold slotS; infer_instance
omit [FloatOps F] in
instance slotR_storable (c : Dev nD) (f : Fin 4) (j : ℕ) (v) : BI.Storable (upEmb : UEmb _ 𝕄) (slotR (F := F) c f j v) := by
  unfold slotR; infer_instance
omit [FloatOps F] in
instance anyS_storable (c : Dev nD) (f : Fin 4) (j : ℕ) : BI.Storable (upEmb : UEmb _ 𝕄) (anyS (F := F) c f j) := by
  unfold anyS; infer_instance
omit [FloatOps F] in
instance anyR_storable (c : Dev nD) (f : Fin 4) (j : ℕ) : BI.Storable (upEmb : UEmb _ 𝕄) (anyR (F := F) c f j) := by
  unfold anyR; infer_instance

/-- Device `c`'s landing slots of flow `f`. -/
def lend (c : Dev nD) (f : Fin 4) : sProp 𝕄 := bigSep (Finset.range 7) fun j => anyR (F := F) c f j

omit [FloatOps F] in
instance lend_storable (c : Dev nD) (f : Fin 4) : BI.Storable (upEmb : UEmb _ 𝕄) (lend (F := F) c f) := by
  unfold lend; infer_instance

/-! ## The schedule -/

section Sched

variable (X : Dev nD → S4096x512.Idx → Elt F .f32) (W : Dev nD → S512x2048.Idx → Elt F .f32)

/-- What the barrier of `c` hands it: the landing slots that `c` sends into. -/
def barPay (c : Dev nD) : Bool → sProp 𝕄
  | true => iprop(lend (F := F) (nxt c) 0 ∗ lend (F := F) (nxt c) 1)
  | false => iprop(lend (F := F) (prv c) 2 ∗ lend (F := F) (prv c) 3)

/-- What a transfer's semaphore, by its number, hands device `c`. -/
def dmaPay (c : Dev nD) (n : ℕ) : sProp 𝕄 :=
  if n < 31 then anyS c (f4 ((n - 3) / 7)) ((n - 3) % 7)
  else slotR c (f4 ((n - 31) / 7)) ((n - 31) % 7) (acc X W (f4 ((n - 31) / 7)) ((n - 31) % 7) (src (f4 ((n - 31) / 7)) c))

/-- The duties of a cell's round, what one credits, and what it hands device `c`: a barrier has two duties of one unit
    each, a transfer's semaphore one of a block's worth. -/
def dutyOf : SemLoc sig → Finset Bool
  | .reg s => if s = barS then Finset.univ else ∅
  | .dma q => if 3 ≤ q.val then {false} else ∅
def amountOf : SemLoc sig → ℕ
  | .reg _ => 1
  | .dma _ => N
def payOf (c : Dev nD) (d : Bool) : SemLoc sig → sProp 𝕄
  | .reg _ => barPay (F := F) c d
  | .dma q => dmaPay X W c q.val

theorem amountOf_pos (s : SemLoc sig) : 0 < amountOf s := by
  cases s
  · exact Nat.one_pos
  · exact N_pos

/-- One round on every cell. -/
def rd : Rounds.Schedule (GSem nD τ sig) Bool 𝕄 where
  duties g r := if r = 0 ∧ g.1.2 = .tc then dutyOf g.2 else ∅
  unitless _ := False
  amount g _ _ := amountOf g.2
  payload g _ d := payOf X W g.1.1 d g.2
  amount_pos g _ _ _ := amountOf_pos g.2

omit [FloatOps F] in
instance barPay_storable (c : Dev nD) (d : Bool) : BI.Storable (upEmb : UEmb _ 𝕄) (barPay (F := F) c d) := by
  cases d <;> (unfold barPay; infer_instance)
instance dmaPay_storable (c : Dev nD) (n : ℕ) : BI.Storable (upEmb : UEmb _ 𝕄) (dmaPay X W c n) := by
  unfold dmaPay; split <;> infer_instance
theorem payOf_storable (c : Dev nD) (d : Bool) : ∀ s : SemLoc sig, BI.Storable (upEmb : UEmb _ 𝕄) (payOf X W c d s)
  | .reg _ => barPay_storable c d
  | .dma q => dmaPay_storable X W c q.val

instance rd_payload_storable (g : GSem nD τ sig) (r : ℕ) (d : Bool) :
    BI.Storable (upEmb : UEmb _ 𝕄) ((rd X W).payload g r d) := payOf_storable X W g.1.1 d g.2

variable (c : Dev nD) (f : Fin 4) (j : ℕ)

theorem duties_bar : (rd X W).duties (barCell c) 0 = Finset.univ := by
  dsimp only [rd, barCell]; rw [if_pos ⟨rfl, rfl⟩, dutyOf, if_pos rfl]
theorem duties_send : (rd X W).duties (sendCell c f j) 0 = {false} := by
  dsimp only [rd, sendCell]; rw [if_pos ⟨rfl, rfl⟩, dutyOf, if_pos (by rw [sS_val]; omega)]
theorem duties_recv : (rd X W).duties (recvCell c f j) 0 = {false} := by
  dsimp only [rd, recvCell]; rw [if_pos ⟨rfl, rfl⟩, dutyOf, if_pos (by rw [rS_val]; omega)]
theorem duties_later (g : GSem nD τ sig) : ∀ r, 1 ≤ r → (rd X W).duties g r = ∅ :=
  fun r hr => by dsimp only [rd]; rw [if_neg fun h => by omega]

theorem amount_bar (d : Bool) : (rd X W).amount (barCell c) 0 d = 1 := rfl
theorem amount_send (d : Bool) : (rd X W).amount (sendCell c f j) 0 d = N := rfl
theorem amount_recv (d : Bool) : (rd X W).amount (recvCell c f j) 0 d = N := rfl

theorem expect_bar : (rd X W).expect (barCell c) 0 = 2 := by
  unfold Schedule.expect Schedule.amountOf
  rw [duties_bar, Finset.sum_congr rfl fun d _ => amount_bar X W c d, Finset.sum_const, Finset.card_univ, Fintype.card_bool, smul_eq_mul]
theorem expect_send : (rd X W).expect (sendCell c f j) 0 = N := by
  unfold Schedule.expect Schedule.amountOf; rw [duties_send, Finset.sum_singleton, amount_send]
theorem expect_recv : (rd X W).expect (recvCell c f j) 0 = N := by
  unfold Schedule.expect Schedule.amountOf; rw [duties_recv, Finset.sum_singleton, amount_recv]

theorem payload_bar (d : Bool) : (rd X W).payload (barCell c) 0 d = barPay (F := F) c d := rfl
theorem payload_send (hj : j < 7) (d : Bool) : (rd X W).payload (sendCell c f j) 0 d = anyS c f j := by
  have hf := f.isLt
  show dmaPay X W c (sS f j).val = _
  unfold dmaPay
  rw [sS_val, Nat.mod_eq_of_lt hj, if_pos (by omega)]
  have e1 : f4 ((3 + 7 * f.val + j - 3) / 7) = f := Fin.ext (by unfold f4; dsimp only; omega)
  have e2 : (3 + 7 * f.val + j - 3) % 7 = j := by omega
  rw [e1, e2]
theorem payload_recv (hj : j < 7) (d : Bool) :
    (rd X W).payload (recvCell c f j) 0 d = slotR c f j (acc X W f j (src f c)) := by
  have hf := f.isLt
  show dmaPay X W c (rS f j).val = _
  unfold dmaPay
  rw [rS_val, Nat.mod_eq_of_lt hj, if_neg (by omega)]
  have e1 : f4 ((31 + 7 * f.val + j - 31) / 7) = f := Fin.ext (by unfold f4; dsimp only; omega)
  have e2 : (31 + 7 * f.val + j - 31) % 7 = j := by omega
  rw [e1, e2]

theorem rest_bar : bigSep ((rd X W).duties (barCell c) 0 \ ∅) (fun d => (rd X W).payload (barCell c) 0 d)
    = iprop(barPay (F := F) c false ∗ barPay (F := F) c true) := by
  rw [Finset.sdiff_empty, duties_bar, bigSep_univ_eq_bigSepL [false, true] (by decide) (by decide), bigSepL_cons_cons, bigSepL_singleton,
    payload_bar, payload_bar]
  rfl
theorem rest_send (hj : j < 7) :
    bigSep ((rd X W).duties (sendCell c f j) 0 \ ∅) (fun d => (rd X W).payload (sendCell c f j) 0 d) = anyS c f j := by
  rw [Finset.sdiff_empty, duties_send, bigSep_singleton, payload_send X W c f j hj]
theorem rest_recv (hj : j < 7) :
    bigSep ((rd X W).duties (recvCell c f j) 0 \ ∅) (fun d => (rd X W).payload (recvCell c f j) 0 d)
      = slotR c f j (acc X W f j (src f c)) := by
  rw [Finset.sdiff_empty, duties_recv, bigSep_singleton, payload_recv X W c f j hj]

end Sched

/-! ## What a device owes, and the levels -/

/-- What device `c` owes its neighbours' receive cells when it has sent `n f` blocks of each flow `f`. -/
def owed (n : Fin 4 → ℕ) (c : Dev nD) : CellTallies nD τ sig Unit :=
  ∑ f, ∑ j ∈ Finset.Ico (n f) 7, tallyAt (recvCell (dst f c) f j) () N
/-- At launch also a unit to either neighbour's barrier; the first signal is to `prv c`. -/
def O₁ (c : Dev nD) : CellTallies nD τ sig Unit := owed (fun _ => 0) c + tallyAt (barCell (nxt c)) () 1
def O₀ (c : Dev nD) : CellTallies nD τ sig Unit := O₁ c + tallyAt (barCell (prv c)) () 1

/-- Sending block `n f` of flow `f` pays that much of it. -/
theorem owed_send (n : Fin 4 → ℕ) (c : Dev nD) (f : Fin 4) (h : n f < 7) :
    owed n c = owed (Function.update n f (n f + 1)) c + tallyAt (recvCell (dst f c) f (n f)) () N := by
  unfold owed
  rw [← Finset.add_sum_erase _ _ (Finset.mem_univ f), ← Finset.add_sum_erase Finset.univ (fun f' => ∑ j ∈ Finset.Ico (Function.update n f (n f + 1) f') 7, _) (Finset.mem_univ f)]
  have hr : ∑ f' ∈ Finset.univ.erase f, ∑ j ∈ Finset.Ico (Function.update n f (n f + 1) f') 7, (tallyAt (recvCell (dst f' c) f' j) () N : CellTallies nD τ sig Unit)
      = ∑ f' ∈ Finset.univ.erase f, ∑ j ∈ Finset.Ico (n f') 7, tallyAt (recvCell (dst f' c) f' j) () N :=
    Finset.sum_congr rfl fun f' hf' => by rw [Function.update_of_ne (Finset.ne_of_mem_erase hf')]
  rw [hr, Function.update_self, Finset.sum_eq_sum_Ico_succ_bot h, add_assoc, add_comm]

theorem owed_all (c : Dev nD) : owed (fun _ => 7) c = 0 := by
  unfold owed; simp only [Finset.Ico_self, Finset.sum_empty, Finset.sum_const_zero]

theorem owed_pos {n : Fin 4 → ℕ} {c : Dev nD} {g : GSem nD τ sig} {u : Unit} (h : 0 < owed n c g u) :
    ∃ f j, n f ≤ j ∧ j < 7 ∧ g = recvCell (dst f c) f j := by
  by_contra hn
  have : owed n c g u = 0 := by
    unfold owed
    rw [Finset.sum_apply, Finsupp.finset_sum_apply]
    refine Finset.sum_eq_zero fun f _ => ?_
    rw [Finset.sum_apply, Finsupp.finset_sum_apply]
    refine Finset.sum_eq_zero fun j hj => ?_
    rw [tallyAt_apply, if_neg]
    rintro ⟨h1, -⟩
    exact hn ⟨f, j, (Finset.mem_Ico.mp hj).1, (Finset.mem_Ico.mp hj).2, h1⟩
  omega

theorem O₀_pos {c : Dev nD} {g : GSem nD τ sig} {u : Unit} (h : 0 < O₀ c g u) :
    (∃ f j, 0 ≤ j ∧ j < 7 ∧ g = recvCell (dst f c) f j) ∨ g = barCell (nxt c) ∨ g = barCell (prv c) := by
  unfold O₀ O₁ at h
  rw [Pi.add_apply, Finsupp.add_apply, Pi.add_apply, Finsupp.add_apply, tallyAt_apply, tallyAt_apply] at h
  by_contra hn
  rw [not_or, not_or] at hn
  rw [if_neg (fun h' => hn.2.1 h'.1), if_neg (fun h' => hn.2.2 h'.1)] at h
  exact hn.1 (owed_pos (n := fun _ => 0) (u := u) (by omega))

def L (g : GSem nD τ sig) : Finset Unit := if g.1.2 = .tc then {()} else ∅
/-- Staging and send cells 0, barriers 1, the receive cells of transfer `j` at `2 + j`. -/
def lv (g : GSem nD τ sig) (_ : Unit) : ℕ := match g.2 with
  | .reg _ => 1
  | .dma q => if q.val < 31 then 0 else 2 + (q.val - 31) % 7

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (f : Fin 4) (j : ℕ) (hj : j < 7) (u : Unit) : lv (recvCell c f j) u = 2 + j := by
  show (if (rS f j).val < 31 then 0 else 2 + ((rS f j).val - 31) % 7) = _
  rw [rS_val, Nat.mod_eq_of_lt hj, if_neg (by omega)]; omega

/-- A wait at level `l` when only receive cells of later transfers are owed. -/
theorem mayWait_owed (n : Fin 4 → ℕ) (c : Dev nD) (sm : SemLoc sig) (l : ℕ) (hl : lv ((c : Thread nD τ), sm) () ≤ l) (hn : ∀ f, l < 2 + n f) :
    (levAts L lv : sProp 𝕄) ⊢ MayWait (c : Thread nD τ) sm () (owed n c) :=
  MayOwe.of_cut (L := L) (lev := lv) l (fun p hp => by rw [Finset.mem_singleton.mp hp, L_tc]; exact Finset.mem_singleton_self _)
    (fun g u hg => by obtain ⟨f, j, _, _, rfl⟩ := owed_pos hg; exact Finset.mem_singleton_self _)
    (fun p hp => by rw [Finset.mem_singleton.mp hp]; exact hl)
    (fun g u hg => by
      obtain ⟨f, j, h1, h2, rfl⟩ := owed_pos hg
      rw [lv_recv _ _ _ h2]; have := hn f; omega)

theorem mayWait_send (n : Fin 4 → ℕ) (c : Dev nD) (f : Fin 4) (j : ℕ) :
    (levAts L lv : sProp 𝕄) ⊢ MayWait (c : Thread nD τ) (.dma (sS f j)) () (owed n c) :=
  mayWait_owed n c _ 0 (by
    show (if (sS f j).val < 31 then 0 else 2 + ((sS f j).val - 31) % 7) ≤ 0
    have := f.isLt; have := Nat.mod_lt j (show 0 < 7 by decide)
    rw [sS_val, if_pos (by omega)]) fun f' => by omega
theorem mayWait_recv (n : Fin 4 → ℕ) (c : Dev nD) (f : Fin 4) (j : ℕ) (hj : j < 7) (hn : ∀ f', j < n f') :
    (levAts L lv : sProp 𝕄) ⊢ MayWait (c : Thread nD τ) (.dma (rS f j)) () (owed n c) :=
  mayWait_owed n c _ (2 + j) (le_of_eq (lv_recv c f j hj ())) fun f' => by have := hn f'; omega
theorem mayWait_bar (c : Dev nD) :
    (levAts L lv : sProp 𝕄) ⊢ MayWait (c : Thread nD τ) (.reg barS) () (owed (fun _ => 0) c) :=
  mayWait_owed _ c _ 1 le_rfl fun f' => by omega

/-- The pipeline's own waits, for the staging transfers, under everything. -/
theorem mayWait_stage (c : Dev nD) (q : DmaSem sig) (hq : q.val < 31) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨f, j, _, _, rfl⟩ | rfl | rfl <;> exact Finset.mem_singleton_self _)
      (fun p hp => by rw [Finset.mem_singleton.mp hp]; show (if q.val < 31 then 0 else _) ≤ 0; rw [if_pos hq])
      (fun g u hg => by
        rcases O₀_pos hg with ⟨f, j, _, h2, rfl⟩ | rfl | rfl
        · rw [lv_recv _ _ _ h2]; omega
        · exact Nat.one_pos
        · exact Nat.one_pos)
  · rw [MayWait_zero]; iintro -; iempintro

end Cert.KernelIdeal.Body

end
-- ==== Proof.Ideal.Slots.lean ====
/-
# 01_k — `Slots`: the buffers in the pieces the flows work on

The send buffer is its `4 × 2` slots, the landing buffer its `4 × 7`, the result its four column blocks. Here the
buffers are cut into those pieces and put together again, and the loads and stores of one piece are stated of it.
-/
module

public import proofs.«01_k».proof.Proof.Ideal.Protocol

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## A family of rectangles that each index is in exactly one of -/

section Families

variable {s : Shape} {T : Type} [Fintype T] (r : T → Rect s) (own : s.Idx → T) (h : ∀ t y, y ∈ (r t).set ↔ own y = t)
include h

theorem family_disjoint (t t' : T) (ht : t ≠ t') : Disjoint (r t).set (r t').set :=
  Finset.disjoint_left.mpr fun y hy hy' => ht (((h t y).mp hy).symm.trans ((h t' y).mp hy'))

theorem family_cover [DecidableEq s.Idx] : (Finset.univ : Finset T).biUnion (fun t => (r t).set) = Finset.univ :=
  Finset.eq_univ_iff_forall.mpr fun y => Finset.mem_biUnion.mpr ⟨own y, Finset.mem_univ _, (h _ y).mpr rfl⟩

end Families

/-- The slot that an index of the send buffer, of the landing buffer is in; the flow that a column belongs to. -/
def sOwn (y : S4x2x512x512.Idx) : Fin 4 × Fin 2 := (y 0, y 1)
def rOwn (y : S4x7x512x512.Idx) : Fin 4 × Fin 7 := (y 0, y 1)
def cOwn (y : S512x2048.Idx) : Fin 4 := ⟨(y 1).val / 512, Nat.div_lt_of_lt_mul (y 1).isLt⟩

theorem sOwn_iff (t : Fin 4 × Fin 2) (y : S4x2x512x512.Idx) : y ∈ (sslot t.1 t.2.val).set ↔ sOwn y = t := by
  obtain ⟨f, j⟩ := t
  have h2 : (y 2).val < 512 := (y 2).isLt
  have h3 : (y 3).val < 512 := (y 3).isLt
  have hj : j.val % 2 = j.val := Nat.mod_eq_of_lt j.isLt
  rw [Rect.mem_set_unit]
  constructor
  · intro h
    have a0 : f.val ≤ (y 0).val ∧ (y 0).val < f.val + 1 := h 0
    have a1 : j.val % 2 ≤ (y 1).val ∧ (y 1).val < j.val % 2 + 1 := h 1
    exact Prod.ext (Fin.ext (by show (y 0).val = f.val; omega)) (Fin.ext (by show (y 1).val = j.val; omega))
  · intro h
    have e0 : (y 0).val = f.val := congrArg (fun p : Fin 4 × Fin 2 => p.1.val) h
    have e1 : (y 1).val = j.val := congrArg (fun p : Fin 4 × Fin 2 => p.2.val) h
    intro a; fin_cases a
    · exact ⟨le_of_eq e0.symm, by show (y 0).val < f.val + 1; omega⟩
    · exact ⟨by show j.val % 2 ≤ (y 1).val; omega, by show (y 1).val < j.val % 2 + 1; omega⟩
    · exact ⟨Nat.zero_le _, by show (y 2).val < 0 + 512; omega⟩
    · exact ⟨Nat.zero_le _, by show (y 3).val < 0 + 512; omega⟩

theorem rOwn_iff (t : Fin 4 × Fin 7) (y : S4x7x512x512.Idx) : y ∈ (rslot t.1 t.2.val).set ↔ rOwn y = t := by
  obtain ⟨f, j⟩ := t
  have h2 : (y 2).val < 512 := (y 2).isLt
  have h3 : (y 3).val < 512 := (y 3).isLt
  have hj : j.val % 7 = j.val := Nat.mod_eq_of_lt j.isLt
  rw [Rect.mem_set_unit]
  constructor
  · intro h
    have a0 : f.val ≤ (y 0).val ∧ (y 0).val < f.val + 1 := h 0
    have a1 : j.val % 7 ≤ (y 1).val ∧ (y 1).val < j.val % 7 + 1 := h 1
    exact Prod.ext (Fin.ext (by show (y 0).val = f.val; omega)) (Fin.ext (by show (y 1).val = j.val; omega))
  · intro h
    have e0 : (y 0).val = f.val := congrArg (fun p : Fin 4 × Fin 7 => p.1.val) h
    have e1 : (y 1).val = j.val := congrArg (fun p : Fin 4 × Fin 7 => p.2.val) h
    intro a; fin_cases a
    · exact ⟨le_of_eq e0.symm, by show (y 0).val < f.val + 1; omega⟩
    · exact ⟨by show j.val % 7 ≤ (y 1).val; omega, by show (y 1).val < j.val % 7 + 1; omega⟩
    · exact ⟨Nat.zero_le _, by show (y 2).val < 0 + 512; omega⟩
    · exact ⟨Nat.zero_le _, by show (y 3).val < 0 + 512; omega⟩

theorem cOwn_iff (f : Fin 4) (y : S512x2048.Idx) : y ∈ (cols f).set ↔ cOwn y = f := by
  have h0 : (y 0).val < 512 := (y 0).isLt
  rw [Rect.mem_set_unit]
  constructor
  · intro h
    have a1 : f.val * 512 ≤ (y 1).val ∧ (y 1).val < f.val * 512 + 512 := h 1
    exact Fin.ext (by show (y 1).val / 512 = f.val; omega)
  · intro h
    have e1 : (y 1).val / 512 = f.val := congrArg Fin.val h
    intro a; fin_cases a
    · exact ⟨Nat.zero_le _, by show (y 0).val < 0 + 512; omega⟩
    · exact ⟨by show f.val * 512 ≤ (y 1).val; omega, by show (y 1).val < f.val * 512 + 512; omega⟩

/-! ## A piece through the squeeze that the transfers name it by -/

omit [FloatOps F] in
/-- A rectangle's piece of a buffer, owned at `v`, is its squeeze owned at `v` reshaped; and back. -/
theorem squeeze_owned {s s' : Shape} (c : Dev nD) (M : Memref sig .tc .vmem s .f32) (r : Rect s) (hr : ∀ a, r.stride a = 1)
    (hq : r.shape.Squeezes s') (hc : r.shape.ShapeCasts s') (v : r.shape.Idx → Elt F .f32) :
    (owns (Ix := Unit) (Name := ℕ) (U := UU) (Lvl := ℕ) (c : Thread nD τ) (M.slice r hr) fullShare v : sProp 𝕄)
      ⊢ owns (c : Thread nD τ) ((M.slice r hr).squeeze s' hq) fullShare (shapeCast s' v hc) := by
  unfold owns
  iintro ⟨%g, %hg, H⟩
  iexists g
  isplitr
  · ipureintro
    rw [← hg]; exact rfl
  · rw [Memref.set_view_squeeze]; iexact H

omit [FloatOps F] in
theorem unsqueeze_owned {s s' : Shape} (c : Dev nD) (M : Memref sig .tc .vmem s .f32) (r : Rect s) (hr : ∀ a, r.stride a = 1)
    (hq : r.shape.Squeezes s') (v : s'.Idx → Elt F .f32) :
    (owns (Ix := Unit) (Name := ℕ) (U := UU) (Lvl := ℕ) (c : Thread nD τ) ((M.slice r hr).squeeze s' hq) fullShare v : sProp 𝕄)
      ⊢ iprop(∃ u, owns (Ix := Unit) (Name := ℕ) (U := UU) (Lvl := ℕ) (c : Thread nD τ) (M.slice r hr) fullShare u) := by
  unfold owns
  iintro ⟨%g, %hg, H⟩
  iexists ((M.slice r hr).view.read (Elt F) g)
  iexists g
  isplitr; · ipureintro; rfl
  rw [Memref.set_view_squeeze]; iexact H

/-! ## Cutting and joining -/

section Cut

variable (c : Dev nD)

/-- A whole buffer at some contents is pieces at some contents, -/
theorem cut_any {T : Type} [Fintype T] (b : Ref sig .tc) (r : T → Rect b.ty.shape) (hr : ∀ t a, (r t).stride a = 1)
    (own : b.ty.shape.Idx → T) (h : ∀ t y, y ∈ (r t).set ↔ own y = t) (f : b.ty.Contents (Elt F)) :
    (((c : Thread nD τ).loc b) ↦{fullShare} f : sProp 𝕄)
      ⊢ bigSep Finset.univ fun t => owns (Ix := Unit) (Name := ℕ) (U := UU) (Lvl := ℕ) (c : Thread nD τ) ((Memref.whole b).slice (r t) (hr t)) fullShare (fun j => f ((r t).emb j)) := by
  rw [← owns_whole]
  exact owns_rects (c : Thread nD τ) (Memref.whole b) fullShare r hr (family_disjoint r own h) (by classical exact family_cover r own h) f

/-- and back, the contents of the pieces unrelated to one another. -/
theorem join_any {T : Type} [Fintype T] [DecidableEq T] (b : Ref sig .tc) (r : T → Rect b.ty.shape) (hr : ∀ t a, (r t).stride a = 1)
    (own : b.ty.shape.Idx → T) (h : ∀ t y, y ∈ (r t).set ↔ own y = t) (f₀ : b.ty.Contents (Elt F)) :
    (bigSep Finset.univ fun t => iprop(∃ u, owns (Ix := Unit) (Name := ℕ) (U := UU) (Lvl := ℕ) (c : Thread nD τ) ((Memref.whole b).slice (r t) (hr t)) fullShare u) : sProp 𝕄)
      ⊢ iprop(∃ f : b.ty.Contents (Elt F), ((c : Thread nD τ).loc b) ↦{fullShare} f) := by
  have h₁ (t : T) : iprop(∃ u, owns (Ix := Unit) (Name := ℕ) (U := UU) (Lvl := ℕ) (c : Thread nD τ) ((Memref.whole b).slice (r t) (hr t)) fullShare u)
      ⊢ (iprop(∃ f : b.ty.Contents (Elt F), ((c : Thread nD τ).loc b) ↦[(r t).set]{fullShare} f) : sProp 𝕄) := by
    unfold owns
    rw [← View.set_slice_whole b (r t)]
    iintro ⟨%u, %g, -, H⟩
    iexists g; iexact H
  refine (bigSep_mono fun t _ => h₁ t).trans (show (bigSep Finset.univ fun t => iprop(∃ f : b.ty.Contents (Elt F), ((c : Thread nD τ).loc b) ↦[(r t).set]{fullShare} f) : sProp 𝕄)
      ⊢ iprop(∃ f : b.ty.Contents (Elt F), ((c : Thread nD τ).loc b) ↦{fullShare} f) from ?_)
  iintro H
  ihave H := (BI.bigSep_exists_pi Finset.univ fun (t : T) (f : b.ty.Contents (Elt F)) =>
    (((c : Thread nD τ).loc b) ↦[(r t).set]{fullShare} f : sProp 𝕄)) $$ H
  icases H with ⟨%fs, H⟩
  have hset : (Finset.univ : Finset T).biUnion (fun t => (r t).set) = Finset.univ := by classical exact family_cover r own h
  ihave H := (pointsTo_biUnion_join (ℓ := (c : Thread nD τ).loc b) Finset.univ (fun t => (r t).set) fs f₀
    (fun t _ t' _ htt => family_disjoint r own h t t' htt)) $$ H
  icases H with ⟨%g, -, H⟩
  iexists g
  rw [← hset]
  iexact H

/-- A slot as its piece of the buffer. -/
theorem anyS_of_slice (f : Fin 4) (j : ℕ) (v : (sslot f j).shape.Idx → Elt F .f32) :
    (owns (Ix := Unit) (Name := ℕ) (U := UU) (Lvl := ℕ) (c : Thread nD τ) (sM.slice (sslot f j) (fun _ => rfl)) fullShare v : sProp 𝕄) ⊢ anyS (F := F) c f j := by
  unfold anyS slotS
  iintro H
  iexists (shapeCast S512x512 v shapeCasts_S1x1x512x512_S512x512)
  iapply (squeeze_owned c sM (sslot f j) (fun _ => rfl) squeezes_S1x1x512x512_S512x512 shapeCasts_S1x1x512x512_S512x512 v)
  iexact H
theorem anyR_of_slice (f : Fin 4) (j : ℕ) (v : (rslot f j).shape.Idx → Elt F .f32) :
    (owns (Ix := Unit) (Name := ℕ) (U := UU) (Lvl := ℕ) (c : Thread nD τ) (rM.slice (rslot f j) (fun _ => rfl)) fullShare v : sProp 𝕄) ⊢ anyR (F := F) c f j := by
  unfold anyR slotR
  iintro H
  iexists (shapeCast S512x512 v shapeCasts_S1x1x512x512_S512x512)
  iapply (squeeze_owned c rM (rslot f j) (fun _ => rfl) squeezes_S1x1x512x512_S512x512 shapeCasts_S1x1x512x512_S512x512 v)
  iexact H
theorem slice_of_anyS (f : Fin 4) (j : ℕ) : (anyS (F := F) c f j : sProp 𝕄)
    ⊢ iprop(∃ u, owns (Ix := Unit) (Name := ℕ) (U := UU) (Lvl := ℕ) (c : Thread nD τ) (sM.slice (sslot f j) (fun _ => rfl)) fullShare u) := by
  unfold anyS slotS
  iintro ⟨%v, H⟩
  iapply (unsqueeze_owned c sM (sslot f j) (fun _ => rfl) squeezes_S1x1x512x512_S512x512 v)
  iexact H
theorem slice_of_anyR (f : Fin 4) (j : ℕ) : (anyR (F := F) c f j : sProp 𝕄)
    ⊢ iprop(∃ u, owns (Ix := Unit) (Name := ℕ) (U := UU) (Lvl := ℕ) (c : Thread nD τ) (rM.slice (rslot f j) (fun _ => rfl)) fullShare u) := by
  unfold anyR slotR
  iintro ⟨%v, H⟩
  iapply (unsqueeze_owned c rM (rslot f j) (fun _ => rfl) squeezes_S1x1x512x512_S512x512 v)
  iexact H

/-- The send buffer, the landing buffer as their slots. -/
theorem cut_send (f : (cc0_scratch0 : Ref sig .tc).ty.Contents (Elt F)) :
    (((c : Thread nD τ).loc cc0_scratch0) ↦{fullShare} f : sProp 𝕄) ⊢ bigSep Finset.univ fun t : Fin 4 × Fin 2 => anyS (F := F) c t.1 t.2.val :=
  (cut_any c cc0_scratch0 (fun t : Fin 4 × Fin 2 => sslot t.1 t.2.val) (fun _ _ => rfl) sOwn sOwn_iff f).trans
    (bigSep_mono fun t _ => anyS_of_slice c t.1 t.2.val _)
theorem cut_recv (f : (cc0_scratch1 : Ref sig .tc).ty.Contents (Elt F)) :
    (((c : Thread nD τ).loc cc0_scratch1) ↦{fullShare} f : sProp 𝕄) ⊢ bigSep Finset.univ fun t : Fin 4 × Fin 7 => anyR (F := F) c t.1 t.2.val :=
  (cut_any c cc0_scratch1 (fun t : Fin 4 × Fin 7 => rslot t.1 t.2.val) (fun _ _ => rfl) rOwn rOwn_iff f).trans
    (bigSep_mono fun t _ => anyR_of_slice c t.1 t.2.val _)
theorem join_send (f₀ : (cc0_scratch0 : Ref sig .tc).ty.Contents (Elt F)) :
    (bigSep Finset.univ fun t : Fin 4 × Fin 2 => anyS (F := F) c t.1 t.2.val)
      ⊢ (iprop(∃ f : (cc0_scratch0 : Ref sig .tc).ty.Contents (Elt F), ((c : Thread nD τ).loc cc0_scratch0) ↦{fullShare} f) : sProp 𝕄) :=
  (bigSep_mono fun t _ => slice_of_anyS c t.1 t.2.val).trans
    (join_any c cc0_scratch0 (fun t : Fin 4 × Fin 2 => sslot t.1 t.2.val) (fun _ _ => rfl) sOwn sOwn_iff f₀)
theorem join_recv (f₀ : (cc0_scratch1 : Ref sig .tc).ty.Contents (Elt F)) :
    (bigSep Finset.univ fun t : Fin 4 × Fin 7 => anyR (F := F) c t.1 t.2.val)
      ⊢ (iprop(∃ f : (cc0_scratch1 : Ref sig .tc).ty.Contents (Elt F), ((c : Thread nD τ).loc cc0_scratch1) ↦{fullShare} f) : sProp 𝕄) :=
  (bigSep_mono fun t _ => slice_of_anyR c t.1 t.2.val).trans
    (join_any c cc0_scratch1 (fun t : Fin 4 × Fin 7 => rslot t.1 t.2.val) (fun _ _ => rfl) rOwn rOwn_iff f₀)

/-- Flow `f`'s columns of the result, owned at `v`. -/
def slotO (f : Fin 4) (v : FVec F S512x512 .f32) : sProp 𝕄 :=
  owns (Ix := Unit) (Name := ℕ) (U := UU) (Lvl := ℕ) (c : Thread nD τ) (oM.slice (cols f) (fun _ => rfl)) fullShare v
def anyO (f : Fin 4) : sProp 𝕄 := iprop(∃ v, slotO (F := F) c f v)

/-- The place of an element of the result in its flow's block, and the result whose columns are given blocks. -/
def inBlk (y : S512x2048.Idx) : S512x512.Idx := fun a => ⟨if a = 0 then (y 0).val else (y 1).val % 512, by
  have h : S512x512.size a = 512 := by revert a; decide
  have h0 : (y 0).val < 512 := (y 0).isLt
  rw [h]; split <;> omega⟩
def ofCols (v : Fin 4 → FVec F S512x512 .f32) : (cc0_stg2_0 : Ref sig .tc).ty.Contents (Elt F) :=
  fun y : S512x2048.Idx => v (cOwn y) (inBlk y)

theorem ofCols_emb (v : Fin 4 → FVec F S512x512 .f32) (f : Fin 4) (j : (cols f).shape.Idx) : ofCols v ((cols f).emb j) = v f j := by
  have h0 : (((cols f).emb j) 0).val = (j 0).val := by rw [Rect.emb_apply]; show 0 + 1 * (j 0).val = _; omega
  have h1 : (((cols f).emb j) 1).val = f.val * 512 + (j 1).val := by rw [Rect.emb_apply]; show f.val * 512 + 1 * (j 1).val = _; omega
  have hj : (j 1).val < 512 := (j 1).isLt
  have e1 : cOwn ((cols f).emb j) = f := Fin.ext (by show (((cols f).emb j) 1).val / 512 = f.val; omega)
  have e2 : inBlk ((cols f).emb j) = j := by
    funext a; refine Fin.ext ?_
    fin_cases a
    · show (((cols f).emb j) 0).val = _; rw [h0]; rfl
    · show (((cols f).emb j) 1).val % 512 = _; rw [h1]; show _ = (j 1).val; omega
  show v (cOwn ((cols f).emb j)) (inBlk ((cols f).emb j)) = _
  rw [e1, e2]

/-- The result's buffer as its columns. -/
theorem cut_out (f : (cc0_stg2_0 : Ref sig .tc).ty.Contents (Elt F)) :
    (((c : Thread nD τ).loc cc0_stg2_0) ↦{fullShare} f : sProp 𝕄) ⊢ bigSep Finset.univ fun t : Fin 4 => anyO (F := F) c t :=
  (cut_any c cc0_stg2_0 cols (fun _ _ => rfl) cOwn cOwn_iff f).trans (bigSep_mono fun t _ => by
    unfold anyO slotO
    exact exists_intro (Φ := fun v => owns (Ix := Unit) (Name := ℕ) (U := UU) (Lvl := ℕ) (c : Thread nD τ) (oM.slice (cols t) (fun _ => rfl)) fullShare v) _)
theorem join_out (v : Fin 4 → FVec F S512x512 .f32) :
    (bigSep Finset.univ fun t : Fin 4 => slotO (F := F) c t (v t) : sProp 𝕄) ⊢ (((c : Thread nD τ).loc cc0_stg2_0) ↦{fullShare} ofCols v) := by
  rw [← owns_whole]
  have e : (bigSep Finset.univ fun t : Fin 4 => slotO (F := F) c t (v t) : sProp 𝕄)
      = bigSep Finset.univ fun t : Fin 4 => owns (c : Thread nD τ) (oM.slice (cols t) (fun _ => rfl)) fullShare (fun j => ofCols v ((cols t).emb j)) :=
    bigSep_congr fun t _ => by
      unfold slotO
      rw [show (fun j => ofCols v ((cols t).emb j)) = v t from funext fun j => ofCols_emb v t j]
  rw [e]
  exact owns_of_rects (c : Thread nD τ) oM fullShare cols (fun _ _ => rfl)
    (family_disjoint cols cOwn cOwn_iff) (by classical exact family_cover cols cOwn cOwn_iff) (ofCols v)

end Cut

end Cert.KernelIdeal.Body

end
-- ==== Proof.Ideal.Effects.lean ====
/-
# 01_k — `Effects`: one rule for each kind of step the body takes

What a block product, filling a send slot, starting a transfer, awaiting a block and awaiting a transfer of its own
take from the device and give back, each at a flow `f` and a number `j` of the transfer.
-/
module

public import proofs.«01_k».proof.Proof.Ideal.Slots
public import Idealize.ShloMosaic.Lib.Pipeline.Value

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- A program run on device `c`'s core, to end in `Q`. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Loads and stores of slots -/

section Slot

variable (c : Dev nD) (f : Fin 4) (j : ℕ)

theorem sset_sub : (sM : Memref sig .tc .vmem S4x2x512x512 .f32).view.setOn (sslot f j).set ⊆ (sendM sM f j).view.set := by
  rw [Memref.set_view_squeeze]; exact (View.set_slice _ _).ge
theorem rset_sub : (rM : Memref sig .tc .vmem S4x7x512x512 .f32).view.setOn (rslot f j).set ⊆ (recvM rM f j).view.set := by
  rw [Memref.set_view_squeeze]; exact (View.set_slice _ _).ge

theorem ofSlot_toSlot (v : FVec F S512x512 .f32) : ofSlot (toSlot v) = v :=
  shapeCast_shapeCast v shapeCasts_S512x512_S1x1x512x512 shapeCasts_S1x1x512x512_S512x512

/-- Filling a send slot. -/
theorem put_spec (v : FVec F S512x512 .f32) (Q : PUnit → sProp 𝕄) :
    iprop(anyS c f j ∗ (slotS c f j v -∗ Q ⟨⟩)) ⊢ run c (put sM f j v) Q := by
  unfold anyS slotS owns run put
  simp only [Prog.lift, Prog.bind_op, Prog.bind_ret, Prog.pure_eq_ret]
  iintro ⟨⟨%u, %g, -, H⟩, HQ⟩
  iapply (wp_load 𝒱₀ (c : Thread nD τ) none Set.univ (m := sM) (sset_sub f j)) $$ H; iintro H
  iapply (wp_store 𝒱₀ (c : Thread nD τ) none Set.univ (m := sM) (r := sslot f j) (Mk := Finset.univ)
    ((Finset.Subset.refl _).trans (sset_sub f j |> fun h => (View.set_slice _ _).le.trans h))) $$ H; iintro H
  rw [wp_ret]; imodintro
  iapply HQ
  iexists _
  isplitr
  swap
  · iexact H
  · ipureintro
    exact (congrArg ofSlot (View.read_write_univ (v := (sM : Memref sig .tc .vmem S4x2x512x512 .f32).access (sslot f j)) g (toSlot v))).trans (ofSlot_toSlot v)

/-- The load of a landing slot. -/
theorem load_spec (v : FVec F S512x512 .f32) (hl) {α : Type} (k : Vec F S1x1x512x512 .f32 → Prog (TpuEff nD τ sig (Elt F) Λ₀ .tc) α) (Q : α → sProp 𝕄) :
    iprop(slotR c f j v ∗ (∀ r, ⌜ofSlot r = v⌝ -∗ slotR c f j v -∗ run c (k r) Q))
      ⊢ run c (.op (.load rM (rslot f j).toLoadRect hl) k) Q := by
  unfold slotR owns run
  iintro ⟨⟨%g, %hg, H⟩, HQ⟩
  iapply (wp_load 𝒱₀ (c : Thread nD τ) none Set.univ (m := rM) (rset_sub f j)) $$ H; iintro H
  iapply HQ
  · ipureintro; exact hg
  iexists g; isplitr; · ipureintro; exact hg
  iexact H

end Slot

/-! ## What every step may use: all cells' invariants and levels; the inputs -/

section Ctx

variable (X : Dev nD → S4096x512.Idx → Elt F .f32) (W : Dev nD → S512x2048.Idx → Elt F .f32)

/-- The invariants of every cell of every device, at their names, and that each has reached its round. -/
def records (K : Dev nD × CIx → ℕ) : sProp 𝕄 :=
  iprop((bigSep Finset.univ fun ck : Dev nD × CIx => cellInv ER (rd X W) (K ck) (kcell ck))
    ∗ bigSep Finset.univ fun ck : Dev nD × CIx => reached ER (kcell ck) 0)
instance records_persistent (K : Dev nD × CIx → ℕ) : BI.Persistent (records X W K) := by unfold records; infer_instance

/-- The records and the cells' levels. -/
def known (K : Dev nD × CIx → ℕ) : sProp 𝕄 := iprop(records X W K ∗ levAts L lv)
instance known_persistent (K : Dev nD × CIx → ℕ) : BI.Persistent (known X W K) := by unfold known; infer_instance

/-- A device's blocks of `x` and `w`. -/
def inputs (c : Dev nD) : sProp 𝕄 :=
  iprop((((c : Thread nD τ).loc cc0_stg0_0) ↦{fullShare} X c) ∗ (((c : Thread nD τ).loc cc0_stg1_0) ↦{fullShare} W c))

/-- What device `c` owes when it has sent `n f` blocks of each flow `f`, whatever it has waited for. -/
def owing (c : Dev nD) (n : Fin 4 → ℕ) : sProp 𝕄 := iprop(∃ Ws, owes (c : Thread nD τ) (owed n c) Ws)

variable (K : Dev nD × CIx → ℕ) (c : Dev nD) (f : Fin 4) (j : ℕ)

theorem inv_at (ck : Dev nD × CIx) :
    (bigSep Finset.univ fun ck : Dev nD × CIx => (cellInv ER (rd X W) (K ck) (kcell ck) : sProp 𝕄)) ⊢ cellInv ER (rd X W) (K ck) (kcell ck) :=
  bigSep_elim (Finset.mem_univ ck)
omit [FloatOps F] in
theorem reached_at (ck : Dev nD × CIx) :
    (bigSep Finset.univ fun ck : Dev nD × CIx => (reached ER (kcell ck) 0 : sProp 𝕄)) ⊢ reached ER (kcell ck) 0 :=
  bigSep_elim (Finset.mem_univ ck)

theorem inv_bar : known X W K ⊢ cellInv ER (rd X W) (K (c, none)) (barCell c) := by
  unfold known records; iintro ⟨⟨#H, -⟩, -⟩
  iapply (inv_at X W K (c, (none : CIx))); iexact H
theorem inv_send : known X W K ⊢ cellInv ER (rd X W) (K (c, some (0, f, j7 j))) (sendCell c f j) := by
  rw [← kcell_send]; unfold known records; iintro ⟨⟨#H, -⟩, -⟩
  iapply (inv_at X W K (c, (some (0, f, j7 j) : CIx))); iexact H
theorem inv_recv : known X W K ⊢ cellInv ER (rd X W) (K (c, some (1, f, j7 j))) (recvCell c f j) := by
  rw [← kcell_recv]; unfold known records; iintro ⟨⟨#H, -⟩, -⟩
  iapply (inv_at X W K (c, (some (1, f, j7 j) : CIx))); iexact H
theorem reached_bar : known X W K ⊢ reached ER (barCell c) 0 := by
  unfold known records; iintro ⟨⟨-, #H⟩, -⟩
  iapply (reached_at (F := F) (c, (none : CIx))); iexact H
theorem reached_send : known X W K ⊢ reached ER (sendCell c f j) 0 := by
  rw [← kcell_send]; unfold known records; iintro ⟨⟨-, #H⟩, -⟩
  iapply (reached_at (F := F) (c, (some (0, f, j7 j) : CIx))); iexact H
theorem reached_recv : known X W K ⊢ reached ER (recvCell c f j) 0 := by
  rw [← kcell_recv]; unfold known records; iintro ⟨⟨-, #H⟩, -⟩
  iapply (reached_at (F := F) (c, (some (1, f, j7 j) : CIx))); iexact H
theorem known_levels : known X W K ⊢ levAts L lv := by unfold known; iintro ⟨-, #H⟩; iexact H

/-! ## Products -/

theorem dot_spec (t : ℕ) (Q : FVec F S512x512 .f32 → sProp 𝕄) :
    iprop(inputs X W c ∗ (inputs X W c -∗ Q (prod X W f t c))) ⊢ run c (dot xM wM c f t) Q := by
  unfold inputs run dot prod
  simp only [Prog.lift, Prog.bind_op, Prog.bind_ret, Prog.pure_eq_ret]
  iintro ⟨⟨Hx, Hw⟩, HQ⟩
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  rw [wp_ret]; imodintro
  iapply HQ
  isplitl [Hx] <;> iassumption

/-! ## Transfers -/

/-- Transfer `j` of flow `f`, to the device `n` that is `dst f c`: the send slot goes with it to come back at its send
    semaphore, the landing slot on `n` to be handed over there with what was sent. -/
theorem send_to (n : Dev nD) (hn : n = dst f c) (hj : j < 7) (k : Fin 4 → ℕ) (hk : k f = j)
    {hsc : (recvM rM f j : Memref sig (Dev.tc n : Thread nD τ).2.kind .vmem S512x512 .f32).view.ref.isScScratch = false}
    {hsrc : (sendM sM f j).view.WordExact} {hdst : (recvM rM f j).view.WordExact}
    {hsem : DmaTarget.Typed .vmem (.dma (rS f j)) (.remote (Dev.tc n : Thread nD τ) (recvM rM f j) (.dma (sS f j)) hsc)}
    {α : Type} {Q : α → sProp 𝕄} {p : PUnit → Prog (TpuEff nD τ sig (Elt F) Λ₀ .tc) α} :
    iprop(known X W K ∗ slotS c f j (acc X W f j c) ∗ anyR (dst f c) f j
        ∗ dutyTok ER (sendCell c f j) 0 false ∗ dutyTok ER (recvCell (dst f c) f j) 0 false ∗ owing (F := F) c k
        ∗ ((cred (tallyAt (sendCell c f j) () N) ∗ owing (F := F) c (Function.update k f (j + 1))) -∗ run c (p ⟨⟩) Q))
      ⊢ run c (.op (.enqueueDma (sendM sM f j) (.remote (Dev.tc n : Thread nD τ) (recvM rM f j) (.dma (sS f j)) hsc) (.dma (rS f j)) hsrc hdst hsem) p) Q := by
  subst hn
  unfold slotS anyR slotR owns owing run
  iintro ⟨#HK, ⟨%gs, %hgs, Hs⟩, ⟨%u, %gd, -, Hd⟩, HtS, HtR, ⟨%Ws, Ho⟩, HQ⟩
  iapply (Rounds.wp_send_pointsTo 𝒱₀ ER (rd X W) (c : Thread nD τ) none (κ₁ := K (c, some (0, f, j7 j))) (κ₂ := K (dst f c, some (1, f, j7 j)))
    (c' := (dst f c : Thread nD τ)) (src := sendM sM f j) (dst := recvM rM f j) (sS := .dma (sS f j)) (sem := .dma (rS f j))
    (r₁ := 0) (r₂ := 0) (d₁ := false) (d₂ := false) (fs := gs) (fd := gd) (W := Ws)
    (by show false ∈ (rd X W).duties (sendCell c f j) 0; rw [duties_send]; exact Finset.mem_singleton_self _)
    (by show false ∈ (rd X W).duties (recvCell (dst f c) f j) 0; rw [duties_recv]; exact Finset.mem_singleton_self _)
    () () N rfl (amount_send X W c f j false) (amount_recv X W (dst f c) f j false)
    (O₀ := owed k c) (owed (Function.update k f (j + 1)) c) (by have := owed_send k c f (by omega); rw [hk] at this; exact this)
    (by
      show _ ⊢ (rd X W).payload (sendCell c f j) 0 false
      rw [payload_send X W c f j hj]; unfold anyS slotS owns
      iintro H; iexists _; iexists gs; isplitr; · ipureintro; rfl
      iexact H)
    (by
      show _ ⊢ (rd X W).payload (recvCell (dst f c) f j) 0 false
      rw [payload_recv X W (dst f c) f j hj, src_dst]; unfold slotR owns
      iintro H; iexists _; isplitr
      swap
      · iexact H
      · ipureintro; rw [View.read_write_univ]; exact hgs)) $$ [Hs Hd Ho HtS HtR]
  · isplitr; · iapply (inv_send X W K c f j); iexact HK
    isplitr; · iapply (inv_recv X W K (dst f c) f j); iexact HK
    isplitl [Hs]; · iexact Hs
    isplitl [Hd]; · iexact Hd
    isplitl [Ho]; · iexact Ho
    isplitl [HtS]; · iexact HtS
    isplitr; · iapply (reached_send X W K c f j); iexact HK
    isplitl [HtR]; · iexact HtR
    iapply (reached_recv X W K (dst f c) f j); iexact HK
  iintro ⟨Hc, Ho⟩
  iapply HQ
  isplitl [Hc]; · iexact Hc
  iexists _; iexact Ho

theorem send_spec (hj : j < 7) (k : Fin 4 → ℕ) (hk : k f = j) (Q : PUnit → sProp 𝕄) :
    iprop(known X W K ∗ slotS c f j (acc X W f j c) ∗ anyR (dst f c) f j
        ∗ dutyTok ER (sendCell c f j) 0 false ∗ dutyTok ER (recvCell (dst f c) f j) 0 false ∗ owing (F := F) c k
        ∗ ((cred (tallyAt (sendCell c f j) () N) ∗ owing (F := F) c (Function.update k f (j + 1))) -∗ Q ⟨⟩))
      ⊢ run c (send sM rM cc0_scratch2 cc0_scratch3 c f j) Q := by
  unfold send Prog.lift
  refine .trans ?_ (send_to X W K c f j (devOf c f) (devOf_eq c f) hj k hk)
  iintro ⟨#HK, Hs, Hd, HtS, HtR, Ho, HQ⟩
  isplitr; · iexact HK
  isplitl [Hs]; · iexact Hs
  isplitl [Hd]; · iexact Hd
  isplitl [HtS]; · iexact HtS
  isplitl [HtR]; · iexact HtR
  isplitl [Ho]; · iexact Ho
  iintro H
  unfold run
  rw [wp_ret]; imodintro
  iapply HQ; iexact H

/-- Awaiting the block `j` of flow `f`: its landing slot comes with the sum so far, and the semaphore is done with. -/
theorem recv_spec (hj : j < 7) (k : Fin 4 → ℕ) (hk : ∀ f', j < k f') (Q : FVec F S512x512 .f32 → sProp 𝕄) :
    iprop(known X W K ∗ atPos ER (recvCell c f j) 0 ∅ 0 ∗ cred (tallyAt (recvCell c f j) () N) ∗ owing (F := F) c k
        ∗ ((semVal (recvCell c f j) 0 ∗ anyR c f j ∗ owing (F := F) c k) -∗ Q (acc X W f j (src f c))))
      ⊢ run c (recv sM rM cc0_scratch3 f j) Q := by
  unfold recv
  simp only [Prog.lift, Prog.bind_op, Prog.bind_ret, Prog.pure_eq_ret]
  unfold owing run
  iintro ⟨#HK, Hat, Hc, ⟨%Ws, Ho⟩, HQ⟩
  iapply (Rounds.wp_wait_rest_token 𝒱₀ ER (rd X W) (c : Thread nD τ) none (κ := K (c, some (1, f, j7 j))) (sm := .dma (rS f j))
      (wpE_waitDma2_eq 𝒱₀ (c : Thread nD τ) none Set.univ) (Set.mem_univ _) () (O := owed k c) (W := Ws) (R := 0) (m := 0) (T := ∅)
      (by rw [Nat.zero_add, N_recv]; exact (expect_recv X W c f j).symm)) $$ [Hc Ho Hat]
  · isplitr; · iapply (inv_recv X W K c f j); iexact HK
    isplitl [Hc]; · rw [N_recv]; iexact Hc
    isplitl [Ho]; · iexact Ho
    isplitr; · iapply (mayWait_recv k c f j hj hk); iapply (known_levels X W K); iexact HK
    iexact Hat
  iintro ⟨Ho, Hat, -, Hpay⟩
  have hrest := rest_recv X W c f j hj
  unfold recvCell at hrest
  ihave Hr := (Entails.of_eq hrest) $$ Hpay
  imod (Rounds.cell_close ER (rd X W) (Set.mem_univ (K (c, some (1, f, j7 j)))) (fun h => h) (R := 0 + 1) (duties_later X W (recvCell c f j))) $$ [Hat] with Hz
  · isplitr; · iapply (inv_recv X W K c f j); iexact HK
    iexact Hat
  iapply (load_spec c f j (acc X W f j (src f c)))
  isplitl [Hr]; · iexact Hr
  iintro %r %hr Hr
  unfold run
  rw [wp_ret]; imodintro
  rw [hr]
  iapply HQ
  isplitl [Hz]; · iexact Hz
  isplitl [Hr]; · unfold anyR; iexists _; iexact Hr
  iexists _; iexact Ho

/-- Awaiting that transfer `j` of the device's own has left its send slot. -/
theorem sent_spec (hj : j < 7) (k : Fin 4 → ℕ) (Q : PUnit → sProp 𝕄) :
    iprop(known X W K ∗ atPos ER (sendCell c f j) 0 ∅ 0 ∗ cred (tallyAt (sendCell c f j) () N) ∗ owing (F := F) c k
        ∗ ((semVal (sendCell c f j) 0 ∗ anyS c f j ∗ owing (F := F) c k) -∗ Q ⟨⟩))
      ⊢ run c (sent sM rM cc0_scratch2 f j) Q := by
  unfold sent Prog.lift owing run
  iintro ⟨#HK, Hat, Hc, ⟨%Ws, Ho⟩, HQ⟩
  iapply (Rounds.wp_wait_rest_token 𝒱₀ ER (rd X W) (c : Thread nD τ) none (κ := K (c, some (0, f, j7 j))) (sm := .dma (sS f j))
      (wpE_waitDma2_eq 𝒱₀ (c : Thread nD τ) none Set.univ) (Set.mem_univ _) () (O := owed k c) (W := Ws) (R := 0) (m := 0) (T := ∅)
      (by rw [Nat.zero_add, N_send]; exact (expect_send X W c f j).symm)) $$ [Hc Ho Hat]
  · isplitr; · iapply (inv_send X W K c f j); iexact HK
    isplitl [Hc]; · rw [N_send]; iexact Hc
    isplitl [Ho]; · iexact Ho
    isplitr; · iapply (mayWait_send k c f j); iapply (known_levels X W K); iexact HK
    iexact Hat
  iintro ⟨Ho, Hat, -, Hpay⟩
  have hrest := rest_send X W c f j hj
  unfold sendCell at hrest
  ihave Hs := (Entails.of_eq hrest) $$ Hpay
  imod (Rounds.cell_close ER (rd X W) (Set.mem_univ (K (c, some (0, f, j7 j)))) (fun h => h) (R := 0 + 1) (duties_later X W (sendCell c f j))) $$ [Hat] with Hz
  · isplitr; · iapply (inv_send X W K c f j); iexact HK
    iexact Hat
  rw [wp_ret]; imodintro
  iapply HQ
  isplitl [Hz]; · iexact Hz
  isplitl [Hs]; · iexact Hs
  iexists _; iexact Ho

end Ctx

end Cert.KernelIdeal.Body

end
-- ==== Proof.Ideal.Flow.lean ====
/-
# 01_k — `Flow`: a flow's state through the steps, and the body

A flow of a device is in the state `Flow c f a b e` when it has started `a` transfers, taken in `b` blocks and seen `e`
of its own transfers leave. Every kind of step moves it from one such state to another; the body takes every flow from
`Flow c f 0 0 0` to `Flow c f 7 7 7`.
-/
module

public import proofs.«01_k».proof.Proof.Ideal.Effects
public import Idealize.SL.BI.BigOpNat

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The state of a flow -/

section State

variable (c : Dev nD) (f : Fin 4)

/-- What transfer `j` needs: both its duties and the landing slot on the other side. -/
def payKit (j : ℕ) : sProp 𝕄 :=
  iprop(dutyTok ER (sendCell c f j) 0 false ∗ dutyTok ER (recvCell (dst f c) f j) 0 false ∗ anyR (F := F) (dst f c) f j)
/-- What taking in block `j` needs, and what it leaves. -/
def inKit (j : ℕ) : sProp 𝕄 := iprop(atPos ER (recvCell c f j) 0 ∅ 0 ∗ cred (tallyAt (recvCell c f j) () N))
def inDone (j : ℕ) : sProp 𝕄 := iprop(semVal (recvCell c f j) 0 ∗ anyR (F := F) c f j)

def Flow (a b e : ℕ) : sProp 𝕄 :=
  iprop(bigSep (Finset.Ico a 7) (payKit (F := F) c f)
    ∗ bigSep (Finset.Ico b 7) (inKit (F := F) c f)
    ∗ bigSep (Finset.range b) (inDone (F := F) c f)
    ∗ bigSep (Finset.Ico e 7) (fun j => (atPos ER (sendCell c f j) 0 ∅ 0 : sProp 𝕄))
    ∗ bigSep (Finset.range e) (fun j => (semVal (sendCell c f j) 0 : sProp 𝕄))
    ∗ bigSep (Finset.Ico e a) (fun j => (cred (tallyAt (sendCell c f j) () N) : sProp 𝕄))
    ∗ bigSep (Finset.Ico a (e + 2)) (anyS (F := F) c f))

omit [FloatOps F] in
/-- The send slots alternate. -/
theorem anyS_eq {i j : ℕ} (h : i % 2 = j % 2) : anyS (F := F) c f i = anyS c f j := by
  have g : ∀ (a b : ℕ) (_ : a = b) (ha : ∀ i, (![f.val, a, 0, 0] : Fin 4 → ℕ) i + S1x1x512x512.size i ≤ S4x2x512x512.size i)
      (hb : ∀ i, (![f.val, b, 0, 0] : Fin 4 → ℕ) i + S1x1x512x512.size i ≤ S4x2x512x512.size i),
      (iprop(∃ v, owns (Ix := Unit) (Name := ℕ) (U := UU) (Lvl := ℕ) (c : Thread nD τ)
          ((sM.slice (Rect.unit (s := S4x2x512x512) ![f.val, a, 0, 0] S1x1x512x512.size ha) (fun _ => rfl)).squeeze S512x512 squeezes_S1x1x512x512_S512x512) fullShare v) : sProp 𝕄)
        = iprop(∃ v, owns (Ix := Unit) (Name := ℕ) (U := UU) (Lvl := ℕ) (c : Thread nD τ)
          ((sM.slice (Rect.unit (s := S4x2x512x512) ![f.val, b, 0, 0] S1x1x512x512.size hb) (fun _ => rfl)).squeeze S512x512 squeezes_S1x1x512x512_S512x512) fullShare v) := by
    rintro a _ rfl _ _; rfl
  exact g _ _ h _ _

end State

section Steps

variable (X : Dev nD → S4096x512.Idx → Elt F .f32) (W : Dev nD → S512x2048.Idx → Elt F .f32)
variable (K : Dev nD × CIx → ℕ) (c : Dev nD) (f : Fin 4)

/-- Filling the next send slot and starting its transfer. -/
theorem emit_spec (a b e : ℕ) (ha : a < 7) (hae : a < e + 2) (hea : e ≤ a) (k : Fin 4 → ℕ) (hk : k f = a) (Q : PUnit → sProp 𝕄) :
    iprop(known X W K ∗ owing (F := F) c k ∗ Flow (F := F) c f a b e
        ∗ ((owing (F := F) c (Function.update k f (a + 1)) ∗ Flow (F := F) c f (a + 1) b e) -∗ Q ⟨⟩))
      ⊢ run c (put sM f a (acc X W f a c) >>= fun _ => send sM rM cc0_scratch2 cc0_scratch3 c f a) Q := by
  unfold run
  rw [wp_bind]
  unfold Flow
  rw [bigSep_Ico_succ_bot ha, bigSep_Ico_succ_top hea, bigSep_Ico_succ_bot hae (anyS (F := F) c f)]
  unfold payKit
  iintro ⟨#HK, Ho, ⟨⟨⟨Ht1, Ht2, Hd⟩, Hpay⟩, H1, H2, H3, H4, Hfly, Hs, Hfree⟩, HQ⟩
  iapply (put_spec c f a (acc X W f a c))
  isplitl [Hs]; · iexact Hs
  iintro Hs
  iapply (send_spec X W K c f a ha k hk)
  isplitr; · iexact HK
  isplitl [Hs]; · iexact Hs
  isplitl [Hd]; · iexact Hd
  isplitl [Ht1]; · iexact Ht1
  isplitl [Ht2]; · iexact Ht2
  isplitl [Ho]; · iexact Ho
  iintro ⟨Hc, Ho⟩
  iapply HQ
  isplitl [Ho]; · iexact Ho
  isplitl [Hpay]; · iexact Hpay
  isplitl [H1]; · iexact H1
  isplitl [H2]; · iexact H2
  isplitl [H3]; · iexact H3
  isplitl [H4]; · iexact H4
  isplitl [Hc Hfly]
  · isplitl [Hc] <;> iassumption
  iexact Hfree

/-- Taking in the next block. -/
theorem take_spec (a b e : ℕ) (hb : b < 7) (k : Fin 4 → ℕ) (hk : ∀ f', b < k f') (Q : FVec F S512x512 .f32 → sProp 𝕄) :
    iprop(known X W K ∗ owing (F := F) c k ∗ Flow (F := F) c f a b e
        ∗ ((owing (F := F) c k ∗ Flow (F := F) c f a (b + 1) e) -∗ Q (acc X W f b (src f c))))
      ⊢ run c (recv sM rM cc0_scratch3 f b) Q := by
  unfold Flow
  rw [bigSep_Ico_succ_bot hb (inKit (F := F) c f), bigSep_range_succ]
  unfold inKit inDone
  iintro ⟨#HK, Ho, ⟨Hpay, ⟨⟨Hat, Hc⟩, H1⟩, H2, H3, H4, Hfly, Hfree⟩, HQ⟩
  iapply (recv_spec X W K c f b hb k hk)
  isplitr; · iexact HK
  isplitl [Hat]; · iexact Hat
  isplitl [Hc]; · iexact Hc
  isplitl [Ho]; · iexact Ho
  iintro ⟨Hz, Hr, Ho⟩
  iapply HQ
  isplitl [Ho]; · iexact Ho
  isplitl [Hpay]; · iexact Hpay
  isplitl [H1]; · iexact H1
  isplitl [H2 Hz Hr]
  · isplitl [Hz Hr]
    · isplitl [Hz] <;> iassumption
    iexact H2
  isplitl [H3]; · iexact H3
  isplitl [H4]; · iexact H4
  isplitl [Hfly]; · iexact Hfly
  iexact Hfree

/-- Seeing the oldest transfer leave. -/
theorem left_spec (a b e : ℕ) (he : e < 7) (hea : e < a) (hae : a ≤ e + 2) (k : Fin 4 → ℕ) (Q : PUnit → sProp 𝕄) :
    iprop(known X W K ∗ owing (F := F) c k ∗ Flow (F := F) c f a b e
        ∗ ((owing (F := F) c k ∗ Flow (F := F) c f a b (e + 1)) -∗ Q ⟨⟩))
      ⊢ run c (sent sM rM cc0_scratch2 f e) Q := by
  unfold Flow
  rw [bigSep_Ico_succ_bot he (fun j => (atPos ER (sendCell c f j) 0 ∅ 0 : sProp 𝕄)), bigSep_range_succ, bigSep_Ico_succ_bot hea,
    show e + 1 + 2 = (e + 2) + 1 from by omega, bigSep_Ico_succ_top hae, anyS_eq c f (show (e + 2) % 2 = e % 2 by omega)]
  iintro ⟨#HK, Ho, ⟨Hpay, H1, H2, ⟨Hat, H3⟩, H4, ⟨Hc, Hfly⟩, Hfree⟩, HQ⟩
  iapply (sent_spec X W K c f e he k)
  isplitr; · iexact HK
  isplitl [Hat]; · iexact Hat
  isplitl [Hc]; · iexact Hc
  isplitl [Ho]; · iexact Ho
  iintro ⟨Hz, Hs, Ho⟩
  iapply HQ
  isplitl [Ho]; · iexact Ho
  isplitl [Hpay]; · iexact Hpay
  isplitl [H1]; · iexact H1
  isplitl [H2]; · iexact H2
  isplitl [H3]; · iexact H3
  isplitl [H4 Hz]
  · isplitl [Hz] <;> iassumption
  isplitl [Hfly]; · iexact Hfly
  isplitl [Hs] <;> iassumption

/-! ## The steps, within a round of the four flows -/

/-- How many blocks the flows have sent when those in `done` have been through step `t`. -/
def cnt (t : ℕ) (done : Fin 4 → Bool) (f : Fin 4) : ℕ := if done f then t + 1 else t

theorem cnt_update (t : ℕ) (done : Fin 4 → Bool) (f : Fin 4) :
    Function.update (cnt t done) f (t + 1) = cnt t (Function.update done f true) := by
  funext f'
  by_cases h : f' = f
  · subst h; unfold cnt; rw [Function.update_self, Function.update_self, if_pos rfl]
  · unfold cnt; rw [Function.update_of_ne h, Function.update_of_ne h]
theorem cnt_of_not {t : ℕ} {done : Fin 4 → Bool} {f : Fin 4} (h : done f = false) : cnt t done f = t := by
  unfold cnt; rw [h]; rfl
theorem cnt_ge (t : ℕ) (done : Fin 4 → Bool) (f : Fin 4) : t ≤ cnt t done f := by unfold cnt; split <;> omega
theorem cnt_none (t : ℕ) : cnt t (fun _ => false) = fun _ => t := rfl
theorem cnt_all (t : ℕ) : cnt t (fun _ => true) = fun _ => t + 1 := rfl

/-- What the flows share in round `t`: the inputs and what is owed. -/
def shared (t : ℕ) (done : Fin 4 → Bool) : sProp 𝕄 := iprop(inputs X W c ∗ owing (F := F) c (cnt t done))

theorem first_spec (done : Fin 4 → Bool) (hd : done f = false) (Q : PUnit → sProp 𝕄) :
    iprop(known X W K ∗ Flow (F := F) c f 0 0 0 ∗ shared X W c 0 done
        ∗ ((Flow (F := F) c f 1 0 0 ∗ shared X W c 0 (Function.update done f true)) -∗ Q ⟨⟩))
      ⊢ run c (first xM wM sM rM cc0_scratch2 cc0_scratch3 c f) Q := by
  unfold shared first run
  rw [wp_bind]
  iintro ⟨#HK, HF, ⟨Hin, Ho⟩, HQ⟩
  iapply (dot_spec X W c f 0)
  isplitl [Hin]; · iexact Hin
  iintro Hin
  iapply (emit_spec X W K c f 0 0 0 (by omega) (by omega) (by omega) (cnt 0 done) (cnt_of_not hd))
  isplitr; · iexact HK
  isplitl [Ho]; · iexact Ho
  isplitl [HF]; · iexact HF
  rw [cnt_update]
  iintro ⟨Ho, HF⟩
  iapply HQ
  isplitl [HF]; · iexact HF
  isplitl [Hin] <;> iassumption

theorem second_spec (done : Fin 4 → Bool) (hd : done f = false) (Q : PUnit → sProp 𝕄) :
    iprop(known X W K ∗ Flow (F := F) c f 1 0 0 ∗ shared X W c 1 done
        ∗ ((Flow (F := F) c f 2 1 0 ∗ shared X W c 1 (Function.update done f true)) -∗ Q ⟨⟩))
      ⊢ run c (second xM wM sM rM cc0_scratch2 cc0_scratch3 c f) Q := by
  unfold shared second run
  rw [wp_bind]
  iintro ⟨#HK, HF, ⟨Hin, Ho⟩, HQ⟩
  iapply (dot_spec X W c f 1)
  isplitl [Hin]; · iexact Hin
  iintro Hin
  rw [wp_bind]
  iapply (take_spec X W K c f 1 0 0 (by omega) (cnt 1 done) (fun f' => by have := cnt_ge 1 done f'; omega))
  isplitr; · iexact HK
  isplitl [Ho]; · iexact Ho
  isplitl [HF]; · iexact HF
  iintro ⟨Ho, HF⟩
  iapply (emit_spec X W K c f 1 1 0 (by omega) (by omega) (by omega) (cnt 1 done) (cnt_of_not hd))
  isplitr; · iexact HK
  isplitl [Ho]; · iexact Ho
  isplitl [HF]; · iexact HF
  rw [cnt_update]
  iintro ⟨Ho, HF⟩
  iapply HQ
  isplitl [HF]; · iexact HF
  isplitl [Hin] <;> iassumption

theorem later_spec (t : ℕ) (ht : t < 5) (done : Fin 4 → Bool) (hd : done f = false) (Q : PUnit → sProp 𝕄) :
    iprop(known X W K ∗ Flow (F := F) c f (t + 2) (t + 1) t ∗ shared X W c (t + 2) done
        ∗ ((Flow (F := F) c f (t + 3) (t + 2) (t + 1) ∗ shared X W c (t + 2) (Function.update done f true)) -∗ Q ⟨⟩))
      ⊢ run c (later xM wM sM rM cc0_scratch2 cc0_scratch3 c t f) Q := by
  unfold shared later run
  rw [wp_bind]
  iintro ⟨#HK, HF, ⟨Hin, Ho⟩, HQ⟩
  iapply (dot_spec X W c f (t + 2))
  isplitl [Hin]; · iexact Hin
  iintro Hin
  rw [wp_bind]
  iapply (take_spec X W K c f (t + 2) (t + 1) t (by omega) (cnt (t + 2) done) (fun f' => by have := cnt_ge (t + 2) done f'; omega))
  isplitr; · iexact HK
  isplitl [Ho]; · iexact Ho
  isplitl [HF]; · iexact HF
  iintro ⟨Ho, HF⟩
  rw [wp_bind]
  iapply (left_spec X W K c f (t + 2) (t + 2) t (by omega) (by omega) (by omega) (cnt (t + 2) done))
  isplitr; · iexact HK
  isplitl [Ho]; · iexact Ho
  isplitl [HF]; · iexact HF
  iintro ⟨Ho, HF⟩
  iapply (emit_spec X W K c f (t + 2) (t + 2) (t + 1) (by omega) (by omega) (by omega) (cnt (t + 2) done) (cnt_of_not hd))
  isplitr; · iexact HK
  isplitl [Ho]; · iexact Ho
  isplitl [HF]; · iexact HF
  rw [cnt_update]
  iintro ⟨Ho, HF⟩
  iapply HQ
  isplitl [HF]; · iexact HF
  isplitl [Hin] <;> iassumption

omit [FloatOps F] in
theorem oset_sub : (oM : Memref sig .tc .vmem S512x2048 .f32).view.setOn (cols f).set ⊆ (oM.slice (cols f) (fun _ => rfl)).view.set :=
  (View.set_slice _ _).ge

theorem last_spec (Q : PUnit → sProp 𝕄) :
    iprop(known X W K ∗ (Flow (F := F) c f 7 6 5 ∗ anyO c f) ∗ (inputs X W c ∗ owing (F := F) c (fun _ => 7))
        ∗ (((Flow (F := F) c f 7 7 5 ∗ slotO c f (outBlk X W f c)) ∗ (inputs X W c ∗ owing (F := F) c (fun _ => 7))) -∗ Q ⟨⟩))
      ⊢ run c (last xM wM oM sM rM cc0_scratch3 c f) Q := by
  unfold last run
  rw [wp_bind]
  iintro ⟨#HK, ⟨HF, Hout⟩, ⟨Hin, Ho⟩, HQ⟩
  iapply (dot_spec X W c f 7)
  isplitl [Hin]; · iexact Hin
  iintro Hin
  rw [wp_bind]
  iapply (take_spec X W K c f 7 6 5 (by omega) (fun _ => 7) (fun f' => by omega))
  isplitr; · iexact HK
  isplitl [Ho]; · iexact Ho
  isplitl [HF]; · iexact HF
  iintro ⟨Ho, HF⟩
  simp only [Prog.lift, Prog.bind_op, Prog.bind_ret, Prog.pure_eq_ret]
  unfold anyO slotO owns
  icases Hout with ⟨%u, %g, -, H⟩
  iapply (wp_load 𝒱₀ (c : Thread nD τ) none Set.univ (m := oM) (oset_sub f)) $$ H; iintro H
  iapply (wp_store 𝒱₀ (c : Thread nD τ) none Set.univ (m := oM) (r := cols f) (Mk := Finset.univ)
    ((Finset.Subset.refl _).trans (oset_sub f |> fun h => (View.set_slice _ _).le.trans h))) $$ H; iintro H
  rw [wp_ret]; imodintro
  iapply HQ
  isplitl [HF H]
  · isplitl [HF]; · iexact HF
    iexists _
    isplitr
    swap
    · iexact H
    · ipureintro
      exact View.read_write_univ (v := (oM : Memref sig .tc .vmem S512x2048 .f32).access (cols f)) g _
  isplitl [Hin] <;> iassumption

/-! ## A round of the four flows -/

/-- The four flows, in the kernel's order. -/
def all4 (A : Fin 4 → sProp 𝕄) : sProp 𝕄 := iprop(A 0 ∗ A 1 ∗ A 2 ∗ A 3)

theorem flows_spec (R : sProp 𝕄) [BI.Persistent R] (p : Fin 4 → Prog (TpuEff nD τ sig (Elt F) Λ₀ .tc) PUnit) (A B : Fin 4 → sProp 𝕄) (S : (Fin 4 → Bool) → sProp 𝕄)
    (h : ∀ done f Q, done f = false → iprop(R ∗ A f ∗ S done ∗ ((B f ∗ S (Function.update done f true)) -∗ Q ⟨⟩)) ⊢ run c (p f) Q) (Q : PUnit → sProp 𝕄) :
    iprop(R ∗ all4 A ∗ S (fun _ => false) ∗ ((all4 B ∗ S (fun _ => true)) -∗ Q ⟨⟩)) ⊢ run c (flows p) Q := by
  have e : Function.update (Function.update (Function.update (Function.update (fun _ : Fin 4 => false) 0 true) 2 true) 1 true) 3 true = fun _ => true := by decide
  unfold flows all4 run
  rw [wp_bind]
  iintro ⟨#HR, ⟨H0, H1, H2, H3⟩, HS, HQ⟩
  iapply (h (fun _ => false) 0 _ rfl)
  isplitr; · iexact HR
  isplitl [H0]; · iexact H0
  isplitl [HS]; · iexact HS
  iintro ⟨H0, HS⟩
  rw [wp_bind]
  iapply (h (Function.update (fun _ => false) 0 true) 2 _ (by decide))
  isplitr; · iexact HR
  isplitl [H2]; · iexact H2
  isplitl [HS]; · iexact HS
  iintro ⟨H2, HS⟩
  rw [wp_bind]
  iapply (h (Function.update (Function.update (fun _ => false) 0 true) 2 true) 1 _ (by decide))
  isplitr; · iexact HR
  isplitl [H1]; · iexact H1
  isplitl [HS]; · iexact HS
  iintro ⟨H1, HS⟩
  iapply (h (Function.update (Function.update (Function.update (fun _ => false) 0 true) 2 true) 1 true) 3 _ (by decide))
  isplitr; · iexact HR
  isplitl [H3]; · iexact H3
  isplitl [HS]; · iexact HS
  iintro ⟨H3, HS⟩
  iapply HQ
  isplitl [H0 H1 H2 H3]
  · isplitl [H0]; · iexact H0
    isplitl [H1]; · iexact H1
    isplitl [H2]; · iexact H2
    iexact H3
  rw [e]; iexact HS

end Steps

end Cert.KernelIdeal.Body

end
-- ==== Proof.Ideal.Run.lean ====
/-
# 01_k — `Run`: the handshake and the body on a symbolic device

The handshake pays one unit to either neighbour, handing over this device's landing slots of the flows that the neighbour
feeds, and takes in return the slots that this device feeds. The body is the handshake and the rounds of the four flows.
-/
module

public import proofs.«01_k».proof.Proof.Ideal.Flow

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Body

variable (X : Dev nD → S4096x512.Idx → Elt F .f32) (W : Dev nD → S512x2048.Idx → Elt F .f32)
variable (K : Dev nD × CIx → ℕ) (c : Dev nD)

/-- What the device has of its barrier: its place, the two neighbours' duties it pays, and the credit it waits for. -/
def barKit : sProp 𝕄 :=
  iprop(atPos ER (barCell c) 0 ∅ 0 ∗ dutyTok ER (barCell (prv c)) 0 true ∗ dutyTok ER (barCell (nxt c)) 0 false
    ∗ cred (tallyAt (barCell c) () 2))

theorem handshake_spec (Q : PUnit → sProp 𝕄) :
    iprop(known X W K ∗ barKit c ∗ (∃ Ws, owes (c : Thread nD τ) (O₀ c) Ws) ∗ all4 (lend (F := F) c)
        ∗ ((semVal (barCell c) 0 ∗ owing (F := F) c (fun _ => 0) ∗ all4 (fun f => lend (F := F) (dst f c) f)) -∗ Q ⟨⟩))
      ⊢ run c (handshake c) Q := by
  unfold handshake barKit all4 run
  simp only [semSignalWord, semWaitWord, Prog.lift, Prog.bind_op, Prog.bind_ret, Prog.pure_eq_ret]
  simp only [dev1_eq c, dev2_eq c]
  iintro ⟨#HK, ⟨Hat, Ht1, Ht2, Hc⟩, ⟨%Ws, HO⟩, ⟨L0, L1, L2, L3⟩, HQ⟩
  iapply (Rounds.wp_signal 𝒱₀ ER (rd X W) (c : Thread nD τ) none (dst := (prv c : Thread nD τ)) (κ := K (prv c, none))
      (d := true) (by have h := duties_bar X W (prv c); unfold barCell at h; rw [h]; exact Finset.mem_univ _)
      ((amount_bar X W (prv c) true).trans (by decide)) () (O₁ c) rfl)
    $$ [HO Ht1 L0 L1]
  · isplitr; · iapply (inv_bar X W K (prv c)); iexact HK
    isplitl [HO]; · iexact HO
    isplitl [Ht1]; · iexact Ht1
    isplitl [L0 L1]
    · have h := payload_bar X W (prv c) true
      unfold barCell at h
      rw [h]; unfold barPay; rw [nxt_prv]
      isplitl [L0] <;> iassumption
    iapply (reached_bar X W K (prv c)); iexact HK
  iintro HO
  unfold O₁
  iapply (Rounds.wp_signal 𝒱₀ ER (rd X W) (c : Thread nD τ) none (dst := (nxt c : Thread nD τ)) (κ := K (nxt c, none))
      (d := false) (by have h := duties_bar X W (nxt c); unfold barCell at h; rw [h]; exact Finset.mem_univ _)
      ((amount_bar X W (nxt c) false).trans (by decide)) () (owed (fun _ => 0) c) rfl)
    $$ [HO Ht2 L2 L3]
  · isplitr; · iapply (inv_bar X W K (nxt c)); iexact HK
    isplitl [HO]; · iexact HO
    isplitl [Ht2]; · iexact Ht2
    isplitl [L2 L3]
    · have h := payload_bar X W (nxt c) false
      unfold barCell at h
      rw [h]; unfold barPay; rw [prv_nxt]
      isplitl [L2] <;> iassumption
    iapply (reached_bar X W K (nxt c)); iexact HK
  iintro HO
  iapply (Rounds.wp_wait_rest_token 𝒱₀ ER (rd X W) (c : Thread nD τ) none (κ := K (c, none))
      (wpE_semWait_eq 𝒱₀ (c : Thread nD τ) none Set.univ) (Set.mem_univ _) () (O := owed (fun _ => 0) c) (W := Ws) (R := 0) (m := 0) (T := ∅)
      (by have h := expect_bar X W c; unfold barCell at h; rw [h]; decide)) $$ [Hc HO Hat]
  · isplitr; · iapply (inv_bar X W K c); iexact HK
    isplitl [Hc]; · iexact Hc
    isplitl [HO]; · iexact HO
    isplitr; · iapply (mayWait_bar c); iapply (known_levels X W K); iexact HK
    iexact Hat
  iintro ⟨HO, Hat, -, Hpay⟩
  have hrest := rest_bar X W c
  unfold barCell at hrest
  ihave Hp := (Entails.of_eq hrest) $$ Hpay
  imod (Rounds.cell_close ER (rd X W) (Set.mem_univ (K (c, none))) (fun h => h) (R := 0 + 1) (duties_later X W (barCell c))) $$ [Hat] with Hz
  · isplitr; · iapply (inv_bar X W K c); iexact HK
    iexact Hat
  rw [wp_ret]; imodintro
  unfold barPay
  icases Hp with ⟨⟨L2, L3⟩, L0, L1⟩
  iapply HQ
  isplitl [Hz]; · iexact Hz
  isplitl [HO]; · unfold owing; iexists _; iexact HO
  isplitl [L0]; · iexact L0
  isplitl [L1]; · iexact L1
  isplitl [L2]; · iexact L2
  iexact L3

/-- What the body leaves. -/
def leftOf : sProp 𝕄 :=
  iprop(semVal (barCell c) 0 ∗ all4 (fun f => iprop(Flow (F := F) c f 7 7 7 ∗ slotO c f (outBlk X W f c)))
    ∗ inputs X W c ∗ owing (F := F) c (fun _ => 7))

theorem later_all (t : ℕ) (ht : t < 5) (Q : PUnit → sProp 𝕄) :
    iprop(known X W K ∗ all4 (fun f => Flow (F := F) c f (t + 2) (t + 1) t) ∗ shared X W c (t + 2) (fun _ => false)
        ∗ ((all4 (fun f => Flow (F := F) c f (t + 3) (t + 2) (t + 1)) ∗ shared X W c (t + 3) (fun _ => false)) -∗ Q ⟨⟩))
      ⊢ run c (flows (later xM wM sM rM cc0_scratch2 cc0_scratch3 c t)) Q := by
  rw [show shared X W c (t + 3) (fun _ => false) = shared X W c (t + 2) (fun _ => true) by
    unfold shared; rw [cnt_none, cnt_all]]
  exact flows_spec c (known X W K) _ _ _ (shared X W c (t + 2)) (fun done f Q hd => later_spec X W K c f t ht done hd Q) Q

theorem left_all (e : ℕ) (h5 : 5 ≤ e) (h7 : e < 7) (Q : PUnit → sProp 𝕄) :
    iprop(known X W K ∗ all4 (fun f => Flow (F := F) c f 7 7 e) ∗ owing (F := F) c (fun _ => 7)
        ∗ ((all4 (fun f => Flow (F := F) c f 7 7 (e + 1)) ∗ owing (F := F) c (fun _ => 7)) -∗ Q ⟨⟩))
      ⊢ run c (flows (fun f => sent sM rM cc0_scratch2 f e)) Q := by
  refine flows_spec c (known X W K) _ _ _ (fun _ => owing (F := F) c (fun _ => 7)) (fun done f Q hd => ?_) Q
  iintro ⟨#HK, HF, Ho, HQ⟩
  iapply (left_spec X W K c f 7 7 e h7 h7 (by omega) (fun _ => 7))
  isplitr; · iexact HK
  isplitl [Ho]; · iexact Ho
  isplitl [HF]; · iexact HF
  iintro ⟨Ho, HF⟩
  iapply HQ
  isplitl [HF] <;> iassumption

omit [FloatOps F] in
/-- A flow at the start, from what the handshake brings. -/
theorem flow_zero (f : Fin 4) :
    iprop((bigSep (Finset.range 7) fun j => iprop(dutyTok ER (sendCell c f j) 0 false ∗ dutyTok ER (recvCell (dst f c) f j) 0 false))
        ∗ lend (F := F) (dst f c) f
        ∗ (bigSep (Finset.range 7) fun j => inKit (F := F) c f j)
        ∗ (bigSep (Finset.range 7) fun j => (atPos ER (sendCell c f j) 0 ∅ 0 : sProp 𝕄))
        ∗ (bigSep (Finset.range 2) (anyS (F := F) c f)))
      ⊢ (Flow (F := F) c f 0 0 0 : sProp 𝕄) := by
  unfold Flow lend
  have e : bigSep (Finset.Ico 0 7) (payKit (F := F) c f)
      = iprop((bigSep (Finset.range 7) fun j => iprop(dutyTok ER (sendCell c f j) 0 false ∗ dutyTok ER (recvCell (dst f c) f j) 0 false))
        ∗ bigSep (Finset.range 7) fun j => anyR (F := F) (dst f c) f j) := by
    rw [← Finset.range_eq_Ico, ← bigSep_sep']
    refine bigSep_congr fun j _ => ?_
    unfold payKit
    exact (equiv_iff.mp ⟨sep_assoc, sep_assoc'⟩).symm
  rw [e, ← Finset.range_eq_Ico, ← Finset.range_eq_Ico, Finset.range_zero, bigSep_empty, bigSep_empty, bigSep_empty]
  iintro ⟨H1, H2, H3, H4, H5⟩
  isplitl [H1 H2]; · isplitl [H1] <;> iassumption
  isplitl [H3]; · iexact H3
  isplitr; · iempintro
  isplitl [H4]; · iexact H4
  isplitr; · iempintro
  isplitr; · iempintro
  iexact H5

/-- What a flow has before the handshake. -/
def flowKit (f : Fin 4) : sProp 𝕄 :=
  iprop((bigSep (Finset.range 7) fun j => iprop(dutyTok ER (sendCell c f j) 0 false ∗ dutyTok ER (recvCell (dst f c) f j) 0 false))
        ∗ (bigSep (Finset.range 7) fun j => inKit (F := F) c f j)
        ∗ (bigSep (Finset.range 7) fun j => (atPos ER (sendCell c f j) 0 ∅ 0 : sProp 𝕄))
        ∗ (bigSep (Finset.range 2) (anyS (F := F) c f)))

omit [FloatOps F] in
theorem flows_zero :
    iprop(all4 (flowKit (F := F) c) ∗ all4 (fun f => lend (F := F) (dst f c) f)) ⊢ (all4 (fun f => Flow (F := F) c f 0 0 0) : sProp 𝕄) := by
  have h : ∀ f, iprop(flowKit (F := F) c f ∗ lend (F := F) (dst f c) f) ⊢ (Flow (F := F) c f 0 0 0 : sProp 𝕄) := fun f => by
    unfold flowKit
    iintro ⟨⟨H1, H2, H3, H4⟩, H5⟩
    iapply (flow_zero c f)
    isplitl [H1]; · iexact H1
    isplitl [H5]; · iexact H5
    isplitl [H2]; · iexact H2
    isplitl [H3] <;> iassumption
  unfold all4
  iintro ⟨⟨A0, A1, A2, A3⟩, B0, B1, B2, B3⟩
  isplitl [A0 B0]; · iapply (h 0); isplitl [A0] <;> iassumption
  isplitl [A1 B1]; · iapply (h 1); isplitl [A1] <;> iassumption
  isplitl [A2 B2]; · iapply (h 2); isplitl [A2] <;> iassumption
  iapply (h 3); isplitl [A3] <;> iassumption

omit [FloatOps F] in
theorem all4_sep (A B : Fin 4 → sProp 𝕄) : iprop(all4 A ∗ all4 B) = all4 fun f => iprop(A f ∗ B f) := by
  unfold all4
  have h1 : iprop((A 0 ∗ A 1 ∗ A 2 ∗ A 3) ∗ B 0 ∗ B 1 ∗ B 2 ∗ B 3) ⊢ (iprop((A 0 ∗ B 0) ∗ (A 1 ∗ B 1) ∗ (A 2 ∗ B 2) ∗ A 3 ∗ B 3) : sProp 𝕄) := by
    iintro ⟨⟨A0, A1, A2, A3⟩, B0, B1, B2, B3⟩
    isplitl [A0 B0]; · isplitl [A0] <;> iassumption
    isplitl [A1 B1]; · isplitl [A1] <;> iassumption
    isplitl [A2 B2]; · isplitl [A2] <;> iassumption
    isplitl [A3] <;> iassumption
  have h2 : iprop((A 0 ∗ B 0) ∗ (A 1 ∗ B 1) ∗ (A 2 ∗ B 2) ∗ A 3 ∗ B 3) ⊢ (iprop((A 0 ∗ A 1 ∗ A 2 ∗ A 3) ∗ B 0 ∗ B 1 ∗ B 2 ∗ B 3) : sProp 𝕄) := by
    iintro ⟨⟨A0, B0⟩, ⟨A1, B1⟩, ⟨A2, B2⟩, A3, B3⟩
    isplitl [A0 A1 A2 A3]
    · isplitl [A0]; · iexact A0
      isplitl [A1]; · iexact A1
      isplitl [A2] <;> iassumption
    isplitl [B0]; · iexact B0
    isplitl [B1]; · iexact B1
    isplitl [B2] <;> iassumption
  exact equiv_iff.mp ⟨h1, h2⟩

set_option maxHeartbeats 800000 in
/-- The body on device `c`. -/
theorem body_spec (Q : PUnit → sProp 𝕄) :
    iprop(known X W K ∗ barKit c ∗ (∃ Ws, owes (c : Thread nD τ) (O₀ c) Ws) ∗ all4 (lend (F := F) c) ∗ all4 (flowKit (F := F) c)
        ∗ inputs X W c ∗ all4 (anyO (F := F) c) ∗ (leftOf X W c -∗ Q ⟨⟩))
      ⊢ run c (body xM wM oM sM rM cc0_scratch2 cc0_scratch3) Q := by
  unfold body run
  simp only [Prog.lift, Prog.bind_op, Prog.bind_ret, wp_deviceId]
  iintro ⟨#HK, Hbar, HO, HL, Hkit, Hin, Hout, HQ⟩
  rw [wp_bind]
  iapply (handshake_spec X W K c)
  isplitr; · iexact HK
  isplitl [Hbar]; · iexact Hbar
  isplitl [HO]; · iexact HO
  isplitl [HL]; · iexact HL
  iintro ⟨Hz, Ho, HL⟩
  ihave HF := (flows_zero (F := F) c) $$ [Hkit HL]
  · isplitl [Hkit] <;> iassumption
  rw [wp_bind]
  iapply (flows_spec c (known X W K) _ _ _ (shared X W c 0) (fun done f Q hd => first_spec X W K c f done hd Q))
  isplitr; · iexact HK
  isplitl [HF]; · iexact HF
  isplitl [Hin Ho]
  · unfold shared; rw [cnt_none]; isplitl [Hin] <;> iassumption
  rw [show shared X W c 0 (fun _ => true) = shared X W c 1 (fun _ => false) from rfl]
  iintro ⟨HF, HS⟩
  rw [wp_bind]
  iapply (flows_spec c (known X W K) _ _ _ (shared X W c 1) (fun done f Q hd => second_spec X W K c f done hd Q))
  isplitr; · iexact HK
  isplitl [HF]; · iexact HF
  isplitl [HS]; · iexact HS
  rw [show shared X W c 1 (fun _ => true) = shared X W c 2 (fun _ => false) from rfl]
  iintro ⟨HF, HS⟩
  rw [wp_bind]
  iapply (later_all X W K c 0 (by omega))
  isplitr; · iexact HK
  isplitl [HF]; · iexact HF
  isplitl [HS]; · iexact HS
  iintro ⟨HF, HS⟩
  rw [wp_bind]
  iapply (later_all X W K c 1 (by omega))
  isplitr; · iexact HK
  isplitl [HF]; · iexact HF
  isplitl [HS]; · iexact HS
  iintro ⟨HF, HS⟩
  rw [wp_bind]
  iapply (later_all X W K c 2 (by omega))
  isplitr; · iexact HK
  isplitl [HF]; · iexact HF
  isplitl [HS]; · iexact HS
  iintro ⟨HF, HS⟩
  rw [wp_bind]
  iapply (later_all X W K c 3 (by omega))
  isplitr; · iexact HK
  isplitl [HF]; · iexact HF
  isplitl [HS]; · iexact HS
  iintro ⟨HF, HS⟩
  rw [wp_bind]
  iapply (later_all X W K c 4 (by omega))
  isplitr; · iexact HK
  isplitl [HF]; · iexact HF
  isplitl [HS]; · iexact HS
  iintro ⟨HF, HS⟩
  rw [wp_bind]
  iapply (flows_spec c (known X W K) _ _ _ (fun _ => iprop(inputs X W c ∗ owing (F := F) c (fun _ => 7)))
    (fun done f Q hd => last_spec X W K c f Q))
  isplitr; · iexact HK
  isplitl [HF Hout]
  · rw [← all4_sep]; isplitl [HF] <;> iassumption
  isplitl [HS]
  · unfold shared; rw [cnt_none]; iexact HS
  rw [← all4_sep]
  iintro ⟨⟨HF, Hout⟩, Hin, Ho⟩
  rw [wp_bind]
  iapply (left_all X W K c 5 (by omega) (by omega))
  isplitr; · iexact HK
  isplitl [HF]; · iexact HF
  isplitl [Ho]; · iexact Ho
  iintro ⟨HF, Ho⟩
  iapply (left_all X W K c 6 (by omega) (by omega))
  isplitr; · iexact HK
  isplitl [HF]; · iexact HF
  isplitl [Ho]; · iexact Ho
  iintro ⟨HF, Ho⟩
  iapply HQ
  unfold leftOf
  rw [← all4_sep]
  isplitl [Hz]; · iexact Hz
  isplitl [HF Hout]; · isplitl [HF] <;> iassumption
  isplitl [Hin] <;> iassumption

end Body

end Cert.KernelIdeal.Body

end
-- ==== Proof.Ideal.Data.lean ====
/-
# 01_k — `Data`: the launch's data and its body obligation

What each device's blocks of `x` and `w` are, what the kernel leaves in its result, and what a device's body starts from:
the cells' records, its places on its own cells, the tokens of the duties it pays and its launch credit. From these the
body's specification gives the obligation that the launch asks for.
-/
module

public import proofs.«01_k».proof.Proof.Ideal.Run
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

/-! ## Numbers below `n` as indices, the four flows, a cell apart -/

theorem bigSep_fin (n : ℕ) (A : ℕ → sProp 𝕄) : (bigSep Finset.univ fun j : Fin n => A j.val) = bigSep (Finset.range n) A := by
  have e : Finset.range n = Finset.univ.map (Fin.valEmbedding (n := n)) := by
    ext k
    rw [Finset.mem_range, Finset.mem_map]
    constructor
    · intro h; exact ⟨⟨k, h⟩, Finset.mem_univ _, rfl⟩
    · rintro ⟨i, -, rfl⟩; exact i.isLt
  rw [e, bigSep_map]; rfl
theorem bigSep_flows (A : Fin 4 → sProp 𝕄) : bigSep Finset.univ A = all4 A :=
  bigSep_univ_eq_bigSepL [0, 1, 2, 3] (by decide) (by decide) A
theorem bigSep_opt {I : Type} [Fintype I] [DecidableEq I] (A : Option I → sProp 𝕄) :
    bigSep Finset.univ A = iprop(A none ∗ bigSep Finset.univ fun i => A (some i)) := by
  have e : (Finset.univ : Finset (Option I)).erase none = Finset.univ.map Function.Embedding.some := by
    ext k
    rw [Finset.mem_erase, Finset.mem_map]
    constructor
    · rintro ⟨h, -⟩
      obtain ⟨i, rfl⟩ := Option.ne_none_iff_exists'.mp h
      exact ⟨i, Finset.mem_univ _, rfl⟩
    · rintro ⟨i, -, rfl⟩; exact ⟨Option.some_ne_none i, Finset.mem_univ _⟩
  rw [bigSep_univ_at A none, e, bigSep_map]; rfl
/-- Over the kernel's own semaphores: of each flow, its send and receive cells. -/
theorem bigSep_own (A : OIx → sProp 𝕄) :
    bigSep Finset.univ A = iprop((all4 fun f => bigSep Finset.univ fun j : Fin 7 => A (0, f, j)) ∗ all4 fun f => bigSep Finset.univ fun j : Fin 7 => A (1, f, j)) := by
  have h : ∀ a, (bigSep Finset.univ fun p : Fin 4 × Fin 7 => A (a, p)) = all4 fun f => bigSep Finset.univ fun j : Fin 7 => A (a, f, j) := fun a => by
    rw [bigSep_univ_prod, bigSep_flows]
  rw [bigSep_univ_prod, bigSep_univ_eq_bigSepL [(0 : Fin 2), 1] (by decide) (by decide), bigSepL_cons_cons, bigSepL_singleton, h, h]
  rfl
theorem all4_mono {A B : Fin 4 → sProp 𝕄} (h : ∀ f, A f ⊢ B f) : all4 A ⊢ all4 B := by
  rw [← bigSep_flows, ← bigSep_flows]; exact bigSep_mono fun f _ => h f

theorem sep_assoc3 (A B C D : sProp 𝕄) : iprop((A ∗ B ∗ C) ∗ D) = iprop(A ∗ B ∗ C ∗ D) := by
  have h1 : iprop((A ∗ B ∗ C) ∗ D) ⊢ iprop(A ∗ B ∗ C ∗ D) := by
    iintro ⟨⟨H1, H2, H3⟩, H4⟩
    isplitl [H1]; · iexact H1
    isplitl [H2]; · iexact H2
    isplitl [H3] <;> iassumption
  have h2 : iprop(A ∗ B ∗ C ∗ D) ⊢ iprop((A ∗ B ∗ C) ∗ D) := by
    iintro ⟨H1, H2, H3, H4⟩
    isplitr [H4]
    · isplitl [H1]; · iexact H1
      isplitl [H2] <;> iassumption
    iexact H4
  exact equiv_iff.mp ⟨h1, h2⟩

/-! ## The data -/

section Data

variable (m : (ℓ : Loc nD τ sig) → Buf (Elt F) ℓ) (ρ : Dev nD → PrngReg)

def s₀ : MemSt nD τ sig (Elt F) := ⟨m, fun _ => 0, ρ⟩

/-- The devices' blocks of `x` and `w`, as fetched. -/
def xin (c : Dev nD) : S4096x512.Idx → Elt F .f32 := (win0_0.blk (0 : Fin 1)).view.read (Elt F) (m ((c : Thread nD τ).loc main_arg0))
def win (c : Dev nD) : S512x2048.Idx → Elt F .f32 := (win0_1.blk (0 : Fin 1)).view.read (Elt F) (m ((c : Thread nD τ).loc main_arg1))

/-- A device's result. -/
def outAt (c : Dev nD) : S512x2048.Idx → Elt F .f32 := ofCols fun f => outBlk (xin m) (win m) f c

/-- The tokens of the duties that a device pays. -/
def payToks (c : Dev nD) : sProp 𝕄 :=
  iprop((dutyTok ER (barCell (prv c)) 0 true ∗ dutyTok ER (barCell (nxt c)) 0 false)
    ∗ (all4 fun f => bigSep Finset.univ fun j : Fin 7 => dutyTok ER (sendCell c f j.val) 0 false)
    ∗ all4 fun f => bigSep Finset.univ fun j : Fin 7 => dutyTok ER (recvCell (dst f c) f j.val) 0 false)
/-- Its places on its own cells, and those tokens. -/
def linear (c : Dev nD) : sProp 𝕄 := iprop((bigSep Finset.univ fun k : CIx => atPos ER (kcell (c, k)) 0 ∅ 0) ∗ payToks (F := F) c)
def G' (c : Dev nD) : sProp 𝕄 := iprop(∃ K, records (xin m) (win m) K ∗ linear (F := F) c)
/-- Its launch credit. -/
def credits (c : Dev nD) : sProp 𝕄 :=
  iprop(cred (tallyAt (barCell c) () 2) ∗ all4 fun f => bigSep Finset.univ fun j : Fin 7 => cred (tallyAt (recvCell c f j.val) () N))
def start (c : Dev nD) : sProp 𝕄 := iprop(G' m c ∗ credits (F := F) c ∗ levAts L lv)

/-- The scratch buffers at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def Φ₀ (c : Dev nD) : sProp 𝕄 := iprop(start m c ∗ scratch (F := F) c)
def Φ₁ (c : Dev nD) : sProp 𝕄 :=
  iprop(semVal (barCell c) 0 ∗ (bigSep Finset.univ fun k : OIx => semVal (kcell (c, some k)) 0) ∗ scratch (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xin m c
    | ⟨1, _⟩ => win m c
    | ⟨2, _⟩ => outAt m c
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

/-! ## From the launch's data to the body's and back -/

/-- A flow's kit without its send slots. -/
def tokKit (c : Dev nD) (f : Fin 4) : sProp 𝕄 :=
  iprop((bigSep (Finset.range 7) fun j => iprop(dutyTok ER (sendCell c f j) 0 false ∗ dutyTok ER (recvCell (dst f c) f j) 0 false))
        ∗ (bigSep (Finset.range 7) fun j => inKit (F := F) c f j)
        ∗ (bigSep (Finset.range 7) fun j => (atPos ER (sendCell c f j) 0 ∅ 0 : sProp 𝕄)))

theorem j7_fin (j : Fin 7) : j7 j.val = j := Fin.ext (Nat.mod_eq_of_lt j.isLt)
theorem kcell_send' (c : Dev nD) (f : Fin 4) (j : Fin 7) : kcell (c, some (0, f, j)) = sendCell c f j.val :=
  (congrArg (fun i => kcell (c, some (0, f, i))) (j7_fin j).symm).trans (kcell_send c f j.val)
theorem kcell_recv' (c : Dev nD) (f : Fin 4) (j : Fin 7) : kcell (c, some (1, f, j)) = recvCell c f j.val :=
  (congrArg (fun i => kcell (c, some (1, f, i))) (j7_fin j).symm).trans (kcell_recv c f j.val)

/-- Over a device's own cells. -/
theorem bigSep_cells (c : Dev nD) (A : GSem nD τ sig → sProp 𝕄) :
    (bigSep Finset.univ fun k : OIx => A (kcell (c, some k)))
      = iprop((all4 fun f => bigSep (Finset.range 7) fun j => A (sendCell c f j)) ∗ all4 fun f => bigSep (Finset.range 7) fun j => A (recvCell c f j)) := by
  have h1 : (fun f : Fin 4 => bigSep Finset.univ fun j : Fin 7 => A (kcell (c, some (0, f, j)))) = fun f => bigSep (Finset.range 7) fun j => A (sendCell c f j) := by
    funext f
    rw [← bigSep_fin]; exact bigSep_congr fun j _ => by rw [kcell_send']
  have h2 : (fun f : Fin 4 => bigSep Finset.univ fun j : Fin 7 => A (kcell (c, some (1, f, j)))) = fun f => bigSep (Finset.range 7) fun j => A (recvCell c f j) := by
    funext f
    rw [← bigSep_fin]; exact bigSep_congr fun j _ => by rw [kcell_recv']
  rw [bigSep_own, h1, h2]

theorem start_kits (c : Dev nD) :
    start m c ⊢ iprop(∃ K, known (xin m) (win m) K ∗ barKit (F := F) c ∗ all4 (tokKit (F := F) c)) := by
  unfold start G' linear payToks credits known
  rw [bigSep_opt, bigSep_cells c (fun g => (atPos ER g 0 ∅ 0 : sProp 𝕄)), kcell_bar]
  iintro ⟨⟨%K, #HR, ⟨Hb, HaS, HaV⟩, ⟨Ht1, Ht2⟩, HtS, HtV⟩, ⟨Hcb, Hc⟩, #HL⟩
  iexists K
  isplitr
  · isplitr; · iexact HR
    iexact HL
  isplitl [Hb Ht1 Ht2 Hcb]
  · unfold barKit
    isplitl [Hb]; · iexact Hb
    isplitl [Ht1]; · iexact Ht1
    isplitl [Ht2] <;> iassumption
  have e : all4 (tokKit (F := F) c)
      = iprop(((all4 fun f => bigSep Finset.univ fun j : Fin 7 => dutyTok ER (sendCell c f j.val) 0 false)
          ∗ all4 fun f => bigSep Finset.univ fun j : Fin 7 => dutyTok ER (recvCell (dst f c) f j.val) 0 false)
        ∗ ((all4 fun f => bigSep (Finset.range 7) fun j => atPos ER (recvCell c f j) 0 ∅ 0)
          ∗ all4 fun f => bigSep Finset.univ fun j : Fin 7 => cred (tallyAt (recvCell c f j.val) () N))
        ∗ all4 fun f => bigSep (Finset.range 7) fun j => atPos ER (sendCell c f j) 0 ∅ 0) := by
    rw [all4_sep, all4_sep, all4_sep, all4_sep]
    refine congrArg all4 (funext fun f => ?_)
    unfold tokKit inKit
    rw [bigSep_sep', bigSep_sep', bigSep_fin 7 fun j => (dutyTok ER (sendCell c f j) 0 false : sProp 𝕄),
      bigSep_fin 7 fun j => (dutyTok ER (recvCell (dst f c) f j) 0 false : sProp 𝕄), bigSep_fin 7 fun j => (cred (tallyAt (recvCell c f j) () N) : sProp 𝕄)]
  rw [e]
  isplitl [HtS HtV]; · isplitl [HtS] <;> iassumption
  isplitl [HaV Hc]; · isplitl [HaV] <;> iassumption
  iexact HaS

theorem send_cut (c : Dev nD) (f : (cc0_scratch0 : Ref sig .tc).ty.Contents (Elt F)) :
    (((c : Thread nD τ).loc cc0_scratch0) ↦{fullShare} f : sProp 𝕄) ⊢ all4 fun i => bigSep (Finset.range 2) (anyS (F := F) c i) := by
  refine (cut_send c f).trans (Entails.of_eq ?_)
  rw [bigSep_univ_prod, bigSep_flows]
  exact congrArg all4 (funext fun i => bigSep_fin 2 (anyS (F := F) c i))
theorem recv_cut (c : Dev nD) (f : (cc0_scratch1 : Ref sig .tc).ty.Contents (Elt F)) :
    (((c : Thread nD τ).loc cc0_scratch1) ↦{fullShare} f : sProp 𝕄) ⊢ all4 (lend (F := F) c) := by
  refine (cut_recv c f).trans (Entails.of_eq ?_)
  rw [bigSep_univ_prod, bigSep_flows]
  exact congrArg all4 (funext fun i => bigSep_fin 7 (anyR (F := F) c i))
theorem send_join (c : Dev nD) (f : (cc0_scratch0 : Ref sig .tc).ty.Contents (Elt F)) :
    (all4 fun i => bigSep (Finset.range 2) (anyS (F := F) c i))
      ⊢ (iprop(∃ f : (cc0_scratch0 : Ref sig .tc).ty.Contents (Elt F), ((c : Thread nD τ).loc cc0_scratch0) ↦{fullShare} f) : sProp 𝕄) := by
  have e : (all4 fun i => bigSep (Finset.range 2) (anyS (F := F) c i)) = bigSep Finset.univ fun t : Fin 4 × Fin 2 => anyS (F := F) c t.1 t.2.val := by
    rw [bigSep_univ_prod, bigSep_flows]
    exact congrArg all4 (funext fun i => (bigSep_fin 2 (anyS (F := F) c i)).symm)
  rw [e]
  exact join_send c f
theorem recv_join (c : Dev nD) (f : (cc0_scratch1 : Ref sig .tc).ty.Contents (Elt F)) :
    all4 (lend (F := F) c)
      ⊢ (iprop(∃ f : (cc0_scratch1 : Ref sig .tc).ty.Contents (Elt F), ((c : Thread nD τ).loc cc0_scratch1) ↦{fullShare} f) : sProp 𝕄) := by
  have e : all4 (lend (F := F) c) = bigSep Finset.univ fun t : Fin 4 × Fin 7 => anyR (F := F) c t.1 t.2.val := by
    rw [bigSep_univ_prod, bigSep_flows]
    exact congrArg all4 (funext fun i => (bigSep_fin 7 (anyR (F := F) c i)).symm)
  rw [e]
  exact join_recv c f

/-- What a flow leaves: its semaphores at zero, its slots. -/
theorem flow_end (c : Dev nD) (f : Fin 4) :
    Flow (F := F) c f 7 7 7 ⊢ iprop(((bigSep (Finset.range 7) fun j => semVal (sendCell c f j) 0) ∗ bigSep (Finset.range 7) fun j => semVal (recvCell c f j) 0)
      ∗ bigSep (Finset.range 2) (anyS (F := F) c f) ∗ lend (F := F) c f) := by
  have e2 : bigSep (Finset.Ico 7 (7 + 2)) (anyS (F := F) c f) = bigSep (Finset.range 2) (anyS (F := F) c f) := by
    rw [bigSep_Ico_succ_bot (by decide), bigSep_Ico_succ_bot (by decide), Finset.Ico_self, bigSep_range_succ, bigSep_range_succ, Finset.range_zero,
      anyS_eq c f (show 7 % 2 = 1 % 2 from rfl), anyS_eq c f (show (7 + 1) % 2 = 0 % 2 from rfl)]
  unfold Flow lend inDone
  rw [e2, bigSep_sep']
  iintro ⟨-, -, ⟨HzR, HR⟩, -, HzS, -, HS⟩
  isplitl [HzR HzS]
  · isplitl [HzS] <;> iassumption
  isplitl [HS] <;> iassumption

theorem flows_end (c : Dev nD) (f₀ : (cc0_scratch0 : Ref sig .tc).ty.Contents (Elt F)) (f₁ : (cc0_scratch1 : Ref sig .tc).ty.Contents (Elt F)) :
    iprop(semVal (barCell c) 0 ∗ all4 fun f => Flow (F := F) c f 7 7 7) ⊢ Φ₁ (F := F) c := by
  unfold Φ₁ scratch
  rw [bigSep_cells c (fun g => (semVal g 0 : sProp 𝕄))]
  have e : (all4 fun f => iprop(((bigSep (Finset.range 7) fun j => semVal (sendCell c f j) 0) ∗ bigSep (Finset.range 7) fun j => semVal (recvCell c f j) 0)
        ∗ bigSep (Finset.range 2) (anyS (F := F) c f) ∗ lend (F := F) c f))
      = iprop(((all4 fun f => bigSep (Finset.range 7) fun j => semVal (sendCell c f j) 0) ∗ all4 fun f => bigSep (Finset.range 7) fun j => semVal (recvCell c f j) 0)
        ∗ (all4 fun f => bigSep (Finset.range 2) (anyS (F := F) c f)) ∗ all4 (lend (F := F) c)) := by
    rw [all4_sep, all4_sep, all4_sep]
  iintro ⟨Hb, HF⟩
  ihave H0 := (all4_mono fun f => flow_end c f) $$ HF
  ihave H := (Entails.of_eq e) $$ H0
  icases H with ⟨Hz, HS, HR⟩
  ihave HS' := (send_join c f₀) $$ HS
  ihave HR' := (recv_join c f₁) $$ HR
  isplitl [Hb]; · iexact Hb
  isplitl [Hz]; · iexact Hz
  isplitl [HS'] <;> iassumption

/-! ## The obligation -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

def bodyPre (c : Dev nD) : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost (c : Dev nD) : sProp 𝕄 :=
  iprop(Φ₁ (F := F) c ∗ (dats m ρ 0 c).owesAt () t0_0.succ ∗ stg c cc0_stg0_0 (xin m c) ∗ stg c cc0_stg1_0 (win m c) ∗ stg c cc0_stg2_0 (outAt m c))

theorem sound_body (c : Dev nD) (Kt : PUnit → sProp 𝕄) :
    iprop(bodyPre m ρ c ∗ (bodyPost m ρ c -∗ Kt ⟨⟩)) ⊢ run c (body xM wM oM sM rM cc0_scratch2 cc0_scratch3) Kt := by
  unfold bodyPre Φ₀ scratch
  iintro ⟨⟨⟨Hs, ⟨%f0, Hscr0⟩, ⟨%f1, Hscr1⟩⟩, Ho, ⟨%d0, %g0, %hg0, Hx⟩, ⟨%d1, %g1, %hg1, Hw⟩, ⟨%d2, %g2, %hg2, Hout⟩⟩, Hk⟩
  have hx : g0 = xin m c := by rw [hg0]; unfold Dat.before; rw [if_pos (fetch0_0 t0_0)]; rfl
  have hw : g1 = win m c := by rw [hg1]; unfold Dat.before; rw [if_pos (fetch0_1 t0_0)]; rfl
  subst hx hw
  unfold Dat.owesAt Pipeline.owesWithin
  icases Ho with ⟨%Ws, %hWs, HO⟩
  rw [show (dats m ρ 0 c).owed t0_0.castSucc = O₀ c from rfl]
  ihave Hk' := (start_kits m c) $$ Hs
  icases Hk' with ⟨%K, #HK, Hbar, Hkit⟩
  ihave HS := (send_cut c f0) $$ Hscr0
  ihave HR := (recv_cut c f1) $$ Hscr1
  ihave HC := (cut_out c g2) $$ Hout
  iapply (body_spec (xin m) (win m) K c)
  isplitr; · iexact HK
  isplitl [Hbar]; · iexact Hbar
  isplitl [HO]; · iexists _; iexact HO
  isplitl [HR]; · iexact HR
  isplitl [Hkit HS]
  · have e : all4 (flowKit (F := F) c) = iprop(all4 (tokKit (F := F) c) ∗ all4 fun i => bigSep (Finset.range 2) (anyS (F := F) c i)) := by
      rw [all4_sep]
      refine congrArg all4 (funext fun f => ?_)
      unfold flowKit tokKit
      exact (sep_assoc3 _ _ _ _).symm
    rw [e]; isplitl [Hkit] <;> iassumption
  isplitl [Hx Hw]
  · unfold inputs; isplitl [Hx] <;> iassumption
  isplitl [HC]
  · rw [← bigSep_flows]; iexact HC
  unfold leftOf
  rw [← all4_sep]
  iintro ⟨Hz, ⟨HF, HC⟩, Hin, Ho⟩
  ihave H1 := (flows_end c f0 f1) $$ [Hz HF]
  · isplitl [Hz] <;> iassumption
  ihave HC' := (Entails.of_eq (bigSep_flows fun f => slotO c f (outBlk (xin m) (win m) f c)).symm) $$ HC
  ihave Hout := (join_out c fun f => outBlk (xin m) (win m) f c) $$ HC'
  unfold inputs owing
  icases Hin with ⟨Hx, Hw⟩
  icases Ho with ⟨%Ws', HO⟩
  rw [owed_all]
  iapply Hk
  unfold bodyPost Dat.owesAt Pipeline.owesWithin
  rw [show (dats m ρ 0 c).owed t0_0.succ = 0 from rfl]
  isplitl [H1]; · iexact H1
  isplitl [HO]
  · iexists Ws'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Hout

set_option maxRecDepth 65536 in
theorem body_obligation (c : Dev nD) : BodyObligation (dats (F := F) m ρ 0 c) (defs₀ (F := F)) 𝒱₀ () Set.univ := fun t => by
  rw [fin_N0 t]
  rw [bigSep_W0, bigSep_W0]
  simp only [owns_stg]
  show bodyPre m ρ c ⊢ run c (bodyAt0 t0_0) (fun _ => bodyPost m ρ c)
  rw [show bodyAt0 (F := F) t0_0 = body xM wM oM sM rM cc0_scratch2 cc0_scratch3 from by
    unfold bodyAt0; rw [cc0_body_eq_skeleton]; exact body_eq _ _ _ _ _ _ _ _ _ _ _ _]
  iintro H
  iapply (sound_body m ρ c fun _ => bodyPost m ρ c)
  isplitl [H]; · iexact H
  iintro H; iexact H

end Data

end Cert.KernelIdeal.Body

end
-- ==== Proof.Ideal.Launch.lean ====
/-
# 01_k — `Launch`: every device's run

The launch deals each device its cells' states and the tokens of their duties; the tokens go round to the devices that pay
them. What the devices owe one another at launch is each device's launch credit. With the body's obligation the launch
theorem gives the run: every device's arrays as computed, every semaphore at zero.
-/
module

public import proofs.«01_k».proof.Proof.Ideal.Data
public import Idealize.ShloMosaic.Lib.Pipeline.CollectiveSegs

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens -/

theorem osem_val_le (k : OIx) : ∃ q : DmaSem sig, osem k = .dma q ∧ 3 ≤ q.val := by
  obtain ⟨a, f, j⟩ := k
  refine ⟨_, rfl, ?_⟩
  dsimp only
  split
  · rw [sS_val]; omega
  · rw [rS_val]; omega

theorem ownSemFacts : Pipeline.OwnSemFacts cfg0.spec osem where
  isScoped k := by
    obtain ⟨q, hq, -⟩ := osem_val_le k
    rw [hq]; exact (by decide : ∀ q : DmaSem sig, (SemLoc.dma q : SemLoc sig).isScoped .tc = true) q
  inj := osem_injective
  disj k w s h := by
    obtain ⟨q, hq, h3⟩ := osem_val_le k
    have e : q = (cfg0.spec w).sem s := SemLoc.dma.inj (hq.symm.trans h)
    have : ∀ (w : Fin 3) (s : Fin (cfg0.spec w).nbuf), ((cfg0.spec w).sem s).val < 3 := by decide
    have := this w s
    rw [e] at h3; omega

theorem share_eq (c : Dev nD) (w : Fin cfg0.W) : (dats m ρ 0 c).share w = fullShare := by unfold Dat.share; split <;> rfl

def cells : Finset (GSem nD τ sig) := Finset.univ.map ⟨kcell, kcell_injective⟩

/-- The duties: of a device's barrier both, of each of its own cells the one. -/
abbrev TIx : Type := Bool ⊕ OIx
def tokOf (ct : Dev nD × TIx) : GSem nD τ sig × ℕ × Bool :=
  match ct.2 with
  | .inl b => (kcell (ct.1, none), 0, b)
  | .inr k => (kcell (ct.1, some k), 0, false)
theorem tokOf_injective : Function.Injective tokOf := by
  rintro ⟨c, t⟩ ⟨c', t'⟩ h
  have h1 : (tokOf (c, t)).1 = (tokOf (c', t')).1 := congrArg Prod.fst h
  have h2 : (tokOf (c, t)).2.2 = (tokOf (c', t')).2.2 := congrArg (fun x => x.2.2) h
  cases t with
  | inl b => cases t' with
    | inl b' =>
      have := kcell_injective h1
      have e : c = c' := congrArg Prod.fst this
      have e2 : b = b' := h2
      rw [e, e2]
    | inr k' => have := congrArg Prod.snd (kcell_injective h1); cases this
  | inr k => cases t' with
    | inl b' => have := congrArg Prod.snd (kcell_injective h1); cases this
    | inr k' =>
      have := kcell_injective h1
      have e : c = c' := congrArg Prod.fst this
      have e2 : k = k' := Option.some.inj (congrArg Prod.snd this)
      rw [e, e2]
def allToks : Finset (GSem nD τ sig × ℕ × Bool) := Finset.univ.map ⟨tokOf, tokOf_injective⟩

def u₀ : UU :=
  (initOf (Pipeline.cells cfgs cellOf_inj) (Pipeline.launchToks cfgs cellOf_inj), initOf cells allToks)

/-- The tokens of a device's own cells. -/
def toks (c : Dev nD) : sProp 𝕄 :=
  iprop((dutyTok ER (barCell c) 0 true ∗ dutyTok ER (barCell c) 0 false)
    ∗ (all4 fun f => bigSep Finset.univ fun j : Fin 7 => dutyTok ER (sendCell c f j.val) 0 false)
    ∗ all4 fun f => bigSep Finset.univ fun j : Fin 7 => dutyTok ER (recvCell c f j.val) 0 false)

def G (c : Dev nD) : sProp 𝕄 :=
  iprop((bigSep Finset.univ fun k : CIx => roundState ER (rd (xin m) (win m)) (kcell (c, k)) 0)
    ∗ (bigSep Finset.univ fun k : CIx => iprop(atPos ER (kcell (c, k)) 0 ∅ 0 ∗ reached ER (kcell (c, k)) 0)) ∗ toks (F := F) c)

theorem cells_eq (Φ : GSem nD τ sig → sProp 𝕄) :
    bigSep cells Φ = bigSep Finset.univ fun c : Dev nD => bigSep Finset.univ fun k : CIx => Φ (kcell (c, k)) := by
  unfold cells; rw [bigSep_map, bigSep_univ_prod]; rfl

theorem toks_eq : bigSep allToks (fun x => (dutyTok ER x.1 x.2.1 x.2.2 : sProp 𝕄)) = bigSep Finset.univ fun c : Dev nD => toks (F := F) c := by
  unfold allToks
  rw [bigSep_map, bigSep_univ_prod]
  refine bigSep_congr fun c _ => ?_
  have e : (bigSep Finset.univ fun k : OIx => (dutyTok ER (kcell (c, some k)) 0 false : sProp 𝕄))
      = iprop((all4 fun f => bigSep Finset.univ fun j : Fin 7 => dutyTok ER (sendCell c f j.val) 0 false)
        ∗ all4 fun f => bigSep Finset.univ fun j : Fin 7 => dutyTok ER (recvCell c f j.val) 0 false) := by
    rw [bigSep_own]
    simp only [kcell_send', kcell_recv']
  rw [bigSep_univ_sum, bigSep_univ_eq_bigSepL [true, false] (by decide) (by decide), bigSepL_cons_cons, bigSepL_singleton]
  unfold toks
  rw [← e]
  rfl

theorem fund : BI.own (ER (initOf cells allToks)) ⊢ (|==> bigSep Finset.univ (G m) : sProp 𝕄) := by
  iintro HX
  imod (Rounds.fund ER (rd (xin m) (win m)) cells allToks) $$ HX with ⟨Hst, Hr, Hat, Htok⟩
  imodintro
  ihave Hst' := (Entails.of_eq (cells_eq fun g => roundState ER (rd (xin m) (win m)) g 0)) $$ Hst
  ihave Hat' := (Entails.of_eq (cells_eq fun g => atPos ER g 0 ∅ 0)) $$ Hat
  ihave Hr' := (Entails.of_eq (cells_eq fun g => reached ER g 0)) $$ Hr
  ihave Htok' := (Entails.of_eq toks_eq) $$ Htok
  unfold G; simp only [bigSep_sep']
  isplitl [Hst']; · iexact Hst'
  isplitl [Hat' Hr']
  · isplitl [Hat'] <;> iassumption
  iexact Htok'

/-! ## Every cell's invariant allocated, every token where it is paid -/

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CIx => semVal (kcell (c, k)) 0 : sProp 𝕄) := by
  rw [unscopedSems0_eq, bigSep_opt, kcell_bar]
  unfold Pipeline.ownSems0
  iintro ⟨HO, HB⟩
  isplitl [HB]; · iexact HB
  iexact HO

/-- The cells' invariants, from counters at zero and their rounds' first states. -/
theorem alloc_cells (c : Dev nD) :
    iprop((bigSep Finset.univ fun k : CIx => semVal (kcell (c, k)) 0) ∗ bigSep Finset.univ fun k : CIx => roundState ER (rd (xin m) (win m)) (kcell (c, k)) 0)
      ⊢ (|={Set.univ}=> bigSep Finset.univ fun k => iprop(∃ κ : ℕ, cellInv ER (rd (xin m) (win m)) κ (kcell (c, k))) : sProp 𝕄) := by
  rw [← bigSep_sep']
  exact (bigSep_mono fun k _ => (Rounds.body_intro ER (rd (xin m) (win m)) (kcell (c, k))).trans inv_alloc).trans (bigSep_fupd _ _)

def alloced (c : Dev nD) : sProp 𝕄 :=
  iprop((bigSep Finset.univ fun k => iprop(∃ κ : ℕ, cellInv ER (rd (xin m) (win m)) κ (kcell (c, k))))
    ∗ (bigSep Finset.univ fun k => iprop(atPos ER (kcell (c, k)) 0 ∅ 0 ∗ reached ER (kcell (c, k)) 0)) ∗ toks (F := F) c)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> alloced m c := by
  unfold G alloced
  iintro ⟨Hos, Hus, Hst, Hat, Htok⟩
  ihave Hv := (sems0_eq (F := F) c) $$ [Hos Hus]
  · isplitl [Hos] <;> iassumption
  imod (alloc_cells m c) $$ [Hv Hst] with Hinv
  · isplitl [Hv] <;> iassumption
  imodintro
  isplitl [Hinv]; · iexact Hinv
  isplitl [Hat]; · iexact Hat
  iexact Htok

/-- A fact of every flow of every device, taken at the flow's receiver. -/
theorem all4_around (A : Fin 4 → Dev nD → sProp 𝕄) :
    (bigSep Finset.univ fun c : Dev nD => all4 fun f => A f c) = bigSep Finset.univ fun c : Dev nD => all4 fun f => A f (dst f c) := by
  unfold all4
  rw [bigSep_sep', bigSep_sep', bigSep_sep', bigSep_sep', bigSep_sep', bigSep_sep', bigSep_univ_equiv (around 0) (A 0), bigSep_univ_equiv (around 1) (A 1),
    bigSep_univ_equiv (around 2) (A 2), bigSep_univ_equiv (around 3) (A 3)]
  rfl

theorem toks_around : (bigSep Finset.univ fun c : Dev nD => (toks (F := F) c : sProp 𝕄)) ⊢ bigSep Finset.univ fun c : Dev nD => payToks (F := F) c := by
  unfold toks payToks
  rw [bigSep_sep', bigSep_sep', bigSep_sep', bigSep_sep', bigSep_sep', bigSep_sep',
    all4_around fun f c => bigSep Finset.univ fun j : Fin 7 => (dutyTok ER (recvCell c f j.val) 0 false : sProp 𝕄),
    bigSep_univ_equiv ring.symm (fun c : Dev nD => (dutyTok ER (barCell c) 0 true : sProp 𝕄)),
    bigSep_univ_equiv ring (fun c : Dev nD => (dutyTok ER (barCell c) 0 false : sProp 𝕄))]
  exact .rfl

theorem ghost_intro (K : Dev nD × CIx → ℕ) (c : Dev nD) : iprop(records (xin m) (win m) K ∗ linear (F := F) c) ⊢ G' m c := by
  unfold G'
  iintro H
  iexists K
  iexact H

theorem regroup : (bigSep Finset.univ fun c : Dev nD => alloced m c : sProp 𝕄) ⊢ bigSep Finset.univ (G' m) := by
  unfold alloced
  rw [bigSep_sep', bigSep_sep', ← bigSep_univ_prod (fun ck : Dev nD × CIx => iprop(∃ κ : ℕ, cellInv ER (rd (xin m) (win m)) κ (kcell ck))),
    bigSep_congr (s := Finset.univ) (fun (c : Dev nD) _ => bigSep_sep' Finset.univ (fun k : CIx => (atPos ER (kcell (c, k)) 0 ∅ 0 : sProp 𝕄)) (fun k => reached ER (kcell (c, k)) 0)),
    bigSep_sep', ← bigSep_univ_prod (fun ck : Dev nD × CIx => (reached ER (kcell ck) 0 : sProp 𝕄))]
  iintro ⟨HI, ⟨Hat, #HR⟩, Htok⟩
  ihave HK := (BI.bigSep_exists_pi Finset.univ (fun (ck : Dev nD × CIx) (κ : ℕ) => (cellInv ER (rd (xin m) (win m)) κ (kcell ck) : sProp 𝕄))) $$ HI
  icases HK with ⟨%K, #HI⟩
  ihave Htk := (toks_around (F := F)) $$ Htok
  iapply (bigSep_with_persistent (R := records (xin m) (win m) K) fun c _ => ghost_intro m K c)
  isplitr
  · unfold records; isplitl; · iexact HI
    iexact HR
  · unfold linear
    rw [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem bar_eq_iff {a b : Dev nD} : Iff (barCell a = barCell b) (a = b) :=
  ⟨fun h => congrArg (fun g : GSem nD τ sig => g.1.1) h, fun h => h ▸ rfl⟩
theorem recv_ne_bar (a b : Dev nD) (f : Fin 4) (j : ℕ) : recvCell a f j ≠ barCell b := fun h => by
  have := congrArg Prod.snd h; cases this
theorem recv_inj {a b : Dev nD} {f f' : Fin 4} {j j' : ℕ} (hj : j < 7) (hj' : j' < 7) (h : recvCell a f j = recvCell b f' j') :
    a = b ∧ f = f' ∧ j = j' := by
  rw [← kcell_recv, ← kcell_recv] at h
  have h' := kcell_injective h
  have h1 : a = b := congrArg Prod.fst h'
  have h2 : ((1 : Fin 2), f, j7 j) = ((1 : Fin 2), f', j7 j') := Option.some.inj (congrArg Prod.snd h')
  have h3 : f = f' := congrArg (fun x : OIx => x.2.1) h2
  have h4 : j % 7 = j' % 7 := congrArg (fun x : OIx => x.2.2.val) h2
  exact ⟨h1, h3, by omega⟩

theorem owed_bar_zero (n : Fin 4 → ℕ) (d c : Dev nD) : owed n d (barCell c) () = 0 := by
  rcases Nat.eq_zero_or_pos (owed n d (barCell c) ()) with h | h
  · exact h
  · obtain ⟨f, j, -, -, h⟩ := owed_pos h
    exact absurd h.symm (recv_ne_bar _ _ f j)

/-- What device `d` owes device `c`'s barrier: a unit per neighbour that `c` is. -/
theorem owed_bar (d c : Dev nD) : O₀ d (barCell c) () = (if d = prv c then 1 else 0) + (if d = nxt c then 1 else 0) := by
  unfold O₀ O₁
  rw [Pi.add_apply, Finsupp.add_apply, Pi.add_apply, Finsupp.add_apply, owed_bar_zero, tallyAt_apply, tallyAt_apply, Nat.zero_add]
  congr 1
  · by_cases h : d = prv c
    · subst h; rw [nxt_prv, if_pos ⟨rfl, rfl⟩, if_pos rfl]
    · rw [if_neg (fun ⟨h1, _⟩ => h (by rw [bar_eq_iff.mp h1, prv_nxt])), if_neg h]
  · by_cases h : d = nxt c
    · subst h; rw [prv_nxt, if_pos ⟨rfl, rfl⟩, if_pos rfl]
    · rw [if_neg (fun ⟨h1, _⟩ => h (by rw [bar_eq_iff.mp h1, nxt_prv])), if_neg h]

/-- What it owes device `c`'s receive cells: a block where it is the flow's sender. -/
theorem owed_recv (d c : Dev nD) (f : Fin 4) (j : ℕ) (hj : j < 7) : O₀ d (recvCell c f j) () = if d = src f c then N else 0 := by
  unfold O₀ O₁
  rw [Pi.add_apply, Finsupp.add_apply, Pi.add_apply, Finsupp.add_apply,
    tallyAt_ne_cell (recv_ne_bar _ _ f j), tallyAt_ne_cell (recv_ne_bar _ _ f j), Finsupp.zero_apply, Nat.add_zero, Nat.add_zero]
  unfold owed
  rw [Finset.sum_apply, Finsupp.finset_sum_apply, Finset.sum_eq_single f, Finset.sum_apply, Finsupp.finset_sum_apply, Finset.sum_eq_single j]
  · rw [tallyAt_apply]
    by_cases h : d = src f c
    · subst h; rw [dst_src, if_pos ⟨rfl, rfl⟩, if_pos rfl]
    · rw [if_neg (fun ⟨h1, _⟩ => h (by rw [(recv_inj hj hj h1).1, src_dst])), if_neg h]
  · intro j' hj' hne
    rw [tallyAt_apply, if_neg fun ⟨h1, _⟩ => hne (recv_inj hj (Finset.mem_Ico.mp hj').2 h1).2.2.symm]
  · intro h; exact absurd (Finset.mem_Ico.mpr ⟨Nat.zero_le _, hj⟩) h
  · intro f' _ hne
    rw [Finset.sum_apply, Finsupp.finset_sum_apply]
    refine Finset.sum_eq_zero fun j' hj' => ?_
    rw [tallyAt_apply, if_neg fun ⟨h1, _⟩ => hne (recv_inj hj (Finset.mem_Ico.mp hj').2 h1).2.1.symm]
  · intro h; exact absurd (Finset.mem_univ f) h

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (nxt c) fun _ => 1, Finset.sum_ite_eq' Finset.univ (prv c) fun _ => 1, if_pos (Finset.mem_univ _), if_pos (Finset.mem_univ _)]

theorem launch_recv (c : Dev nD) (f : Fin 4) (j : ℕ) (hj : j < 7) :
    tallyOn (recvCell c f j) (launchCredit (Pipeline.owing O₀) 0 (recvCell c f j)) = (tallyAt (recvCell c f j) () N : CellTallies nD τ sig Unit) := by
  unfold tallyAt; refine congrArg _ (Finsupp.ext fun u => ?_); cases u
  rw [Pipeline.launchCredit_owing, Finsupp.single_eq_same, Finset.sum_congr rfl fun d _ => owed_recv d c f j hj, Finset.sum_ite_eq' Finset.univ (src f c) fun _ => N,
    if_pos (Finset.mem_univ _)]

/-- A device's receive semaphores among all its semaphores. -/
def rsem : Fin 4 × Fin 7 ↪ SemLoc sig := ⟨fun p => osem (1, p.1, p.2), fun p p' h => by
  have := osem_injective h
  exact Prod.ext (congrArg (fun x : OIx => x.2.1) this) (congrArg (fun x : OIx => x.2.2) this)⟩

theorem creds (c : Dev nD) : (Pipeline.launchCred O₀ c : sProp 𝕄) ⊢ credits (F := F) c := by
  unfold Pipeline.launchCred credits
  rw [bigSep_univ_at _ (SemLoc.reg barS)]
  have e : (all4 fun f => bigSep Finset.univ fun j : Fin 7 => (cred (tallyAt (recvCell c f j.val) () N) : sProp 𝕄))
      = bigSep (Finset.univ.map rsem) fun sm : SemLoc sig => cred (tallyOn ((c : Thread nD τ), sm) (launchCredit (Pipeline.owing O₀) 0 ((c : Thread nD τ), sm))) := by
    rw [bigSep_map, ← bigSep_flows, ← bigSep_univ_prod fun p : Fin 4 × Fin 7 => (cred (tallyAt (recvCell c p.1 p.2.val) () N) : sProp 𝕄)]
    refine bigSep_congr fun p _ => ?_
    rw [← launch_recv c p.1 p.2.val p.2.isLt]
    exact congrArg (fun g => (cred (tallyOn g (launchCredit (Pipeline.owing O₀) 0 g)) : sProp 𝕄)) (kcell_recv' c p.1 p.2).symm
  rw [e]
  have hb := launch_bar c
  unfold barCell at hb ⊢
  rw [hb]
  refine sep_mono_right (bigSep_subset fun sm hsm => ?_)
  obtain ⟨p, -, rfl⟩ := Finset.mem_map.mp hsm
  exact Finset.mem_erase.mpr ⟨fun h => (by cases h), Finset.mem_univ _⟩

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq, unscopedSems0_eq]
  unfold Φ₁ Pipeline.ownSems0 scratch
  exact .rfl

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 65536 in
/-- From any memory with every counter zero the kernel terminates on every device, its arrays as computed, every counter
    zero again. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_x (c : Dev nD) : finalA m ρ c (0 : Fin 3) = m ((c : Thread nD τ).loc main_arg0) :=
  (dats (F := F) m ρ 0 c).arrAt_in (0 : Fin 3) rfl _
theorem finalA_w (c : Dev nD) : finalA m ρ c (1 : Fin 3) = m ((c : Thread nD τ).loc main_arg1) :=
  (dats (F := F) m ρ 0 c).arrAt_in (1 : Fin 3) rfl _

/-- The arguments end as they were, every counter zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨(h.1 c (0 : Fin 3)).trans (finalA_x m ρ c), (h.1 c (1 : Fin 3)).trans (finalA_w m ρ c)⟩, h.2⟩) (run_main m ρ)

end Cert.KernelIdeal.Body

end
-- ==== Proof.Ideal.Result.lean ====
/-
# 01_k — `Result`: the result array after a run

The pipeline has one point and each window is its whole array: the blocks that the body reads are the argument arrays, and
the result array ends as the body left its buffer.
-/
module

public import proofs.«01_k».proof.Proof.Ideal.Launch
public import Idealize.ShloMosaic.Lib.Pipeline.ValueKit.Geometry

@[expose] public section

noncomputable section

namespace Cert.KernelIdeal.Body

open Cert.KernelIdeal Cert.KernelIdeal.Gen
open Idealize.ShloMosaic
open Idealize.ShloMosaic.TcCoe
open Idealize.SL.Sem
open Idealize.ShloMosaic.Pipeline (Dat)

variable {F : FTy → Type} [FloatOps F]

variable (m : (ℓ : Loc nD τ sig) → Buf (Elt F) ℓ) (ρ : Dev nD → PrngReg)

theorem xin_eq (c : Dev nD) : xin m c = m ((c : Thread nD τ).loc main_arg0) :=
  Memref.read_access_unit_zero (Elt F) main_arg0 (funext fun a => by fin_cases a <;> decide) (fun a => by fin_cases a <;> decide) _
theorem win_eq (c : Dev nD) : win m c = m ((c : Thread nD τ).loc main_arg1) :=
  Memref.read_access_unit_zero (Elt F) main_arg1 (funext fun a => by fin_cases a <;> decide) (fun a => by fin_cases a <;> decide) _

/-- The result array is the four flows' columns. -/
theorem finalA_o (c : Dev nD) : finalA m ρ c (2 : Fin 3) = outAt m c := by
  unfold finalA
  refine (dats (F := F) m ρ 0 c).arrAt_eq_of_after_last (2 : Fin 3) t0_0 (by decide +kernel) (outAt m c) fun j => ?_
  rfl

/-- From any memory with every counter zero every device's result array ends as its columns, its arguments as they were. -/
theorem run_out : θ_run defs (onTc (τ := τ) (main (F := F))) ⟨m, fun _ => 0, ρ⟩ (fun r => ∀ c : Dev nD,
      r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h.1 c (2 : Fin 3)).trans (finalA_o m ρ c), (h.1 c (0 : Fin 3)).trans (finalA_x m ρ c),
    (h.1 c (1 : Fin 3)).trans (finalA_w m ρ c)⟩) (run_main m ρ)

end Cert.KernelIdeal.Body

end
-- ==== Proof.Ideal.Sums.lean ====
/-
# 01_k — `Sums`: the result at an index, over the extended reals

A product at an index is a sum over a device's 512 columns of `x`. Flow `f` on device `c` at step `t` multiplies row block
`blk f t c`; the block is the same all along the way of a partial sum from device to device, so that what arrives at its end
is the sum of one block's products over the devices passed — all eight.
-/
module

public import proofs.«01_k».proof.Proof.Ideal.Slots
public import Idealize.ShloMosaic.Lib.Pointwise

@[expose] public section

noncomputable section

namespace Cert.KernelIdeal.Body

open Cert.KernelIdeal Cert.KernelIdeal.Gen
open Idealize.ShloMosaic

/-- The row block that flow `f` on device `c` multiplies at step `t`. -/
def blk (f : Fin 4) (t : ℕ) (c : Dev nD) : Dev nD :=
  if f.val < 2 then ⟨(c.val + 15 - t % 8) % 8, Nat.mod_lt _ (by decide)⟩ else ⟨(c.val + t % 8 + 1) % 8, Nat.mod_lt _ (by decide)⟩

theorem xoff_eq (c : Dev nD) (f : Fin 4) (t : ℕ) : xoff c f t = ![512 * (blk f t c).val, 0] := by
  have ht : t % 8 < 8 := Nat.mod_lt _ (by decide)
  unfold xoff blk
  split
  · exact k0_off1_eq c ⟨t % 8, ht⟩
  · exact k0_off2_eq c ⟨t % 8, ht⟩

/-- Going one device on and one step on keeps the block; -/
theorem blk_src (f : Fin 4) (j : ℕ) (hj : j + 1 < 8) (c : Dev nD) : blk f j (src f c) = blk f (j + 1) c := by
  have hc : c.val < 8 := c.isLt
  unfold blk src prv nxt
  split <;> refine Fin.ext ?_ <;> dsimp only <;> omega
/-- the last step's is the device's own. -/
theorem blk_last (f : Fin 4) (c : Dev nD) : blk f 7 c = c := by
  have hc : c.val < 8 := c.isLt
  unfold blk
  split <;> refine Fin.ext ?_ <;> dsimp only <;> omega

/-- Going back by at most seven devices, every device is passed once. -/
theorem src_bij : ∀ (f : Fin 4) (c : Dev nD), Function.Bijective fun i : Fin 8 => (src f)^[i.val] c := by
  decide +kernel

variable (X : Dev nD → S4096x512.Idx → EReal) (W : Dev nD → S512x2048.Idx → EReal)

/-- The share of device `d` in an element of row block `b`, flow `f`'s columns. -/
def share (f : Fin 4) (b : Dev nD) (r l : Fin 512) (d : Dev nD) : EReal :=
  ∑ k : Fin 512, X d (ix2 (⟨512 * b.val + r.val, by have hb : b.val < 8 := b.isLt; omega⟩ : Fin 4096) k) * W d (ix2 k (⟨512 * f.val + l.val, by omega⟩ : Fin 2048))

theorem mm_apply (x w : FVec Ideal S512x512 .f32) (r l : Fin 512) :
    mm (F := Ideal) x w (ix2 r l) = ∑ k : Fin 512, x (ix2 r k) * w (ix2 k l) := by
  pointwise [mm]

theorem prod_apply (f : Fin 4) (t : ℕ) (c : Dev nD) (r l : Fin 512) :
    prod (F := Ideal) X W f t c (ix2 r l) = share X W f (blk f t c) r l c := by
  have ex := xoff_eq c f t
  unfold prod share
  rw [mm_apply]
  refine Finset.sum_congr rfl fun k _ => ?_
  refine congrArg₂ (· * ·) (congrArg (X c) ?_) (congrArg (W c) ?_)
  · funext a
    refine Fin.ext ?_
    fin_cases a
    · show xoff c f t 0 + 1 * r.val = 512 * (blk f t c).val + r.val
      rw [ex]; show 512 * (blk f t c).val + 1 * r.val = _; omega
    · show xoff c f t 1 + 1 * k.val = k.val
      rw [ex]; show 0 + 1 * k.val = _; omega
  · funext a
    refine Fin.ext ?_
    fin_cases a
    · show 0 + 1 * k.val = k.val; omega
    · show f.val * 512 + 1 * l.val = 512 * f.val + l.val; omega

/-- A partial sum is its block's shares of the devices passed. -/
theorem acc_apply (f : Fin 4) (r l : Fin 512) : ∀ (j : ℕ) (_ : j < 8) (c : Dev nD),
    acc (F := Ideal) X W f j c (ix2 r l) = ∑ i ∈ Finset.range (j + 1), share X W f (blk f j c) r l ((src f)^[i] c)
  | 0, _, c => by
    rw [Finset.sum_range_one]
    exact prod_apply X W f 0 c r l
  | j + 1, hj, c => by
    rw [Finset.sum_range_succ', add_comm (∑ i ∈ Finset.range (j + 1), _)]
    refine congrArg₂ (· + ·) (prod_apply X W f (j + 1) c r l) ?_
    rw [acc_apply f r l j (Nat.lt_of_succ_lt hj) (src f c), blk_src f j hj c]
    rfl

/-- The result at an index: all devices' shares, and zero where they are negative. -/
theorem outBlk_apply (f : Fin 4) (c : Dev nD) (r l : Fin 512) :
    outBlk (F := Ideal) X W f c (ix2 r l) = max (∑ d : Dev nD, share X W f c r l d) 0 := by
  have e : acc (F := Ideal) X W f 7 c (ix2 r l) = ∑ d : Dev nD, share X W f c r l d := by
    rw [acc_apply X W f r l 7 (by decide) c, blk_last, ← Fin.sum_univ_eq_sum_range (fun i => share X W f c r l ((src f)^[i] c))]
    exact (src_bij f c).sum_comp fun d => share X W f c r l d
  rw [← e]
  unfold outBlk
  pointwise [relu]
  rfl

end Cert.KernelIdeal.Body

end
-- ==== Proof.Algebra.lean ====
/-
# 01_k — `Algebra`: the devices' results against the reference

The reference's product sums over the 4096 columns of the whole `x`. Device `d` holds columns `512 d … 512 d + 511` of `x` and
those rows of `w`, so its share of an element is that stretch of the reference's sum, and device `c`'s result is rows
`512 c … 512 c + 511` of the reference's.
-/
module

public import proofs.«01_k».proof.Proof.Ideal.Result
public import proofs.«01_k».proof.Proof.Ideal.Sums
public import proofs.«01_k».proof.Proof.Gen.ReferenceIdeal.Run
public import proofs.«01_k».proof.Defs
public import Idealize.ShloMosaic.Lib.Pipeline.ValueKit.Acc

@[expose] public section

noncomputable section

namespace Cert.Proof.Algebra

open Idealize.ShloMosaic Idealize.ShloMosaic.TcCoe Idealize.SL.Sem

abbrev Sx : Shape := ⟨2, ![4096, 4096]⟩
abbrev Sw : Shape := ⟨2, ![4096, 2048]⟩

/-- The reference's result. -/
def ref (x : FVec Ideal Sx .f32) (w : FVec Ideal Sw .f32) : FVec Ideal Sw .f32 :=
  maximumf (Host.dotGeneral Cert.ReferenceIdeal.dot_S4096x4096_S4096x2048_S4096x2048_1_0_0_1_n_n none x w)
    (broadcastInDim Cert.ReferenceIdeal.S4096x2048 ![] Cert.ReferenceIdeal.Facts₀.bcast_S_S4096x2048 (constant Cert.ReferenceIdeal.S_ .f32 0x00000000#32))

theorem ref_apply (x : FVec Ideal Sx .f32) (w : FVec Ideal Sw .f32) (r : Fin 4096) (l : Fin 2048) :
    ref x w (ix2 r l) = max (∑ k : Fin 4096, x (ix2 r k) * w (ix2 k l)) 0 := by
  pointwise [ref]

/-- The devices' parts of the arguments. -/
def xPart (x : FVec Ideal Sx .f32) (c : Fin 8) : (⟨2, ![4096, 512]⟩ : Shape).Idx → EReal := Layout.block ⟨2, ![4096, 512]⟩ Sx 1 8 c x
def wPart (w : FVec Ideal Sw .f32) (c : Fin 8) : (⟨2, ![512, 2048]⟩ : Shape).Idx → EReal := Layout.block ⟨2, ![512, 2048]⟩ Sw 0 8 c w

/-- The devices' shares of an element make the reference's sum. -/
theorem sum_share (x : FVec Ideal Sx .f32) (w : FVec Ideal Sw .f32) (f : Fin 4) (c : Fin 8) (r l : Fin 512) :
    ∑ d : Fin 8, Cert.KernelIdeal.Body.share (xPart x) (wPart w) f c r l d
      = ∑ k : Fin 4096, x (ix2 (⟨512 * c.val + r.val, by omega⟩ : Fin 4096) k) * w (ix2 k (⟨512 * f.val + l.val, by omega⟩ : Fin 2048)) := by
  unfold Cert.KernelIdeal.Body.share
  refine Fin.sum_mul_add_congr fun d k hl => ?_
  refine congrArg₂ (· * ·) (congrArg x ?_) (congrArg w ?_) <;> funext a <;> fin_cases a <;> rfl

/-- Device `c`'s result is its block of the reference's. -/
theorem out_eq (x : FVec Ideal Sx .f32) (w : FVec Ideal Sw .f32) (c : Fin 8) :
    (Cert.KernelIdeal.Body.ofCols fun f => Cert.KernelIdeal.Body.outBlk (F := Ideal) (xPart x) (wPart w) f c)
      = Layout.block ⟨2, ![512, 2048]⟩ Sw 0 8 c (ref x w) := by
  funext (y : (⟨2, ![512, 2048]⟩ : Shape).Idx)
  have h0 : (y 0).val < 512 := (y 0).isLt
  have h1 : (y 1).val < 2048 := (y 1).isLt
  have ey : Cert.KernelIdeal.Body.inBlk y = ix2 (⟨(y 0).val, h0⟩ : Fin 512) (⟨(y 1).val % 512, by omega⟩ : Fin 512) := by
    funext a; fin_cases a <;> rfl
  have eb : (Layout.block ⟨2, ![512, 2048]⟩ Sw 0 8 c (ref x w)) y
      = ref x w (ix2 (⟨512 * c.val + (y 0).val, by omega⟩ : Fin 4096) (⟨512 * ((y 1).val / 512) + (y 1).val % 512, by omega⟩ : Fin 2048)) := by
    rw [Layout.block_apply]
    refine congrArg (ref x w) ?_
    funext a
    refine Fin.ext ?_
    fin_cases a
    · show c.val * 512 + (y 0).val = 512 * c.val + (y 0).val; omega
    · show (y 1).val = 512 * ((y 1).val / 512) + (y 1).val % 512; omega
  rw [eb, ref_apply]
  show Cert.KernelIdeal.Body.outBlk (F := Ideal) (xPart x) (wPart w) (Cert.KernelIdeal.Body.cOwn y) c (Cert.KernelIdeal.Body.inBlk y) = _
  rw [ey, Cert.KernelIdeal.Body.outBlk_apply, sum_share]
  rfl

/-- The reference's arguments end as they were; it has no semaphore. -/
theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- From memories where each device holds its part of the reference's arguments, each ends holding its part of the
    reference's result. -/
theorem algebraic : Cert.algebraic_KernelIdeal_ReferenceIdeal (hKernelIdeal := Cert.KernelIdeal.Gen.facts)
    (hReferenceIdeal := Cert.ReferenceIdeal.Gen.facts) := by
  intro m g m' g' _ hm
  refine ⟨ref (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)),
    (θ_run _ _ _).mono (fun r h c => ⟨(h c).1.trans ?_, (h c).2⟩) (Cert.KernelIdeal.Body.run_out (F := Ideal) m g),
    (θ_run _ _ _).mono (fun r h => h 0) (Cert.ReferenceIdeal.Value.run (F := Ideal) m' g')⟩
  have hx : Cert.KernelIdeal.Body.xin m = xPart (m' (((0 : Dev Cert.ReferenceIdeal.nD).tc : Thread Cert.ReferenceIdeal.nD Cert.ReferenceIdeal.τ).loc Cert.ReferenceIdeal.main_arg0)) :=
    funext fun d => (Cert.KernelIdeal.Body.xin_eq m d).trans (hm d).1
  have hw : Cert.KernelIdeal.Body.win m = wPart (m' (((0 : Dev Cert.ReferenceIdeal.nD).tc : Thread Cert.ReferenceIdeal.nD Cert.ReferenceIdeal.τ).loc Cert.ReferenceIdeal.main_arg1)) :=
    funext fun d => (Cert.KernelIdeal.Body.win_eq m d).trans (hm d).2
  unfold Cert.KernelIdeal.Body.outAt
  rw [hx, hw]
  exact out_eq _ _ c

end Cert.Proof.Algebra

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Bits.Launch
public import proofs.«01_k».proof.Proof.Ideal.Launch
public import proofs.«01_k».proof.Proof.Algebra
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m g _ => Cert.Kernel.Body.run_frame (F := Bits) m g,
  fun m g _ => Cert.KernelIdeal.Body.run_frame (F := Ideal) m g,
  Cert.Proof.Algebra.frame_reference,
  trivial,
  Cert.Proof.Algebra.algebraic⟩

end Cert.Proof

end
